-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x4096x1024 : Shape := ⟨3, ![2, 4096, 1024]⟩
abbrev S8x512x1024 : Shape := ⟨3, ![8, 512, 1024]⟩
abbrev S_ : Shape := ⟨0, ![]⟩
abbrev S8 : Shape := ⟨1, ![8]⟩
abbrev S1x4096x1024 : Shape := ⟨3, ![1, 4096, 1024]⟩
abbrev S512x1024 : Shape := ⟨2, ![512, 1024]⟩
abbrev S1x512x1024 : Shape := ⟨3, ![1, 512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e4m3⟩
  | .local _ .vmem, ⟨1, _⟩ => ⟨S4096x1024, .f32⟩
  | .local _ .vmem, ⟨2, _⟩ => ⟨S2x4096x1024, .fp8e5m2⟩
  | .local _ .vmem, ⟨3, _⟩ => ⟨S8x512x1024, .bf16⟩
  | .local _ .vmem, ⟨4, _⟩ => ⟨S8x512x1024, .bf16⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_65 : BitVec 32) : Fin 2 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c0_i32_65
  let c8_i32_66 : BitVec 32 := 8#32
  let c0_i32_67 : BitVec 32 := 0#32
  let v99 : BitVec 1 := Scalar.cmpi .eq c8_i32_66 c0_i32_67
  let c1_i32_68 : BitVec 32 := 1#32
  let v100 : BitVec 32 := Scalar.select v99 c1_i32_68 c8_i32_66
  let v101 : BitVec 32 := Scalar.remsi v98 v100
  let c0_i32_70 : BitVec 32 := 0#32
  let v103 : BitVec 1 := Scalar.cmpi .slt v101 c0_i32_70
  let c0_i32_71 : BitVec 32 := 0#32
  let v104 : BitVec 1 := Scalar.cmpi .slt v100 c0_i32_71
  let v105 : BitVec 1 := Scalar.xori v103 v104
  let c0_i32_69 : BitVec 32 := 0#32
  let v102 : BitVec 1 := Scalar.cmpi .ne v101 c0_i32_69
  let v106 : BitVec 1 := Scalar.andi v105 v102
  let v107 : BitVec 32 := Scalar.addi v101 v100
  let v108 : BitVec 32 := Scalar.select v106 v107 v101
  let c1024_i32 : BitVec 32 := 1024#32
  let v109 : BitVec 32 := Scalar.muli v108 c1024_i32
  ![0, v109.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v127 : BitVec 32 := Scalar.muli v2 c512_i32
  let v128 : Index := Scalar.indexCast v127
  let c0_85 : Index := 0#32
  ![v128.toNat, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_114 : BitVec 32 := 0#32
  let c0_i32_115 : BitVec 32 := 0#32
  ![v2.toNat, 0, 0]
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v130 : BitVec 32 := Scalar.addi v2 c1_i32_86
  let c8_i32_87 : BitVec 32 := 8#32
  let c0_i32_88 : BitVec 32 := 0#32
  let v131 : BitVec 1 := Scalar.cmpi .eq c8_i32_87 c0_i32_88
  let c1_i32_89 : BitVec 32 := 1#32
  let v132 : BitVec 32 := Scalar.select v131 c1_i32_89 c8_i32_87
  let v133 : BitVec 32 := Scalar.remsi v130 v132
  let c0_i32_91 : BitVec 32 := 0#32
  let v135 : BitVec 1 := Scalar.cmpi .slt v133 c0_i32_91
  let c0_i32_92 : BitVec 32 := 0#32
  let v136 : BitVec 1 := Scalar.cmpi .slt v132 c0_i32_92
  let v137 : BitVec 1 := Scalar.xori v135 v136
  let c0_i32_90 : BitVec 32 := 0#32
  let v134 : BitVec 1 := Scalar.cmpi .ne v133 c0_i32_90
  let v138 : BitVec 1 := Scalar.andi v137 v134
  let v139 : BitVec 32 := Scalar.addi v133 v132
  let v140 : BitVec 32 := Scalar.select v138 v139 v133
  let c1_i32_112 : BitVec 32 := 1#32
  let v163 : BitVec 32 := Scalar.muli v140 c1_i32_112
  let v164 : BitVec 32 := Scalar.addi c0_i32_113 v163
  v164.toNat
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v179 : BitVec 32 := Scalar.addi v2 c2_i32_125
  let c8_i32_126 : BitVec 32 := 8#32
  let c0_i32_127 : BitVec 32 := 0#32
  let v180 : BitVec 1 := Scalar.cmpi .eq c8_i32_126 c0_i32_127
  let c1_i32_128 : BitVec 32 := 1#32
  let v181 : BitVec 32 := Scalar.select v180 c1_i32_128 c8_i32_126
  let v182 : BitVec 32 := Scalar.remsi v179 v181
  let c0_i32_130 : BitVec 32 := 0#32
  let v184 : BitVec 1 := Scalar.cmpi .slt v182 c0_i32_130
  let c0_i32_131 : BitVec 32 := 0#32
  let v185 : BitVec 1 := Scalar.cmpi .slt v181 c0_i32_131
  let v186 : BitVec 1 := Scalar.xori v184 v185
  let c0_i32_129 : BitVec 32 := 0#32
  let v183 : BitVec 1 := Scalar.cmpi .ne v182 c0_i32_129
  let v187 : BitVec 1 := Scalar.andi v186 v183
  let v188 : BitVec 32 := Scalar.addi v182 v181
  let v189 : BitVec 32 := Scalar.select v187 v188 v182
  let c1_i32_151 : BitVec 32 := 1#32
  let v212 : BitVec 32 := Scalar.muli v189 c1_i32_151
  let v213 : BitVec 32 := Scalar.addi c0_i32_152 v212
  v213.toNat
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_164 : BitVec 32 := 3#32
  let v228 : BitVec 32 := Scalar.addi v2 c3_i32_164
  let c8_i32_165 : BitVec 32 := 8#32
  let c0_i32_166 : BitVec 32 := 0#32
  let v229 : BitVec 1 := Scalar.cmpi .eq c8_i32_165 c0_i32_166
  let c1_i32_167 : BitVec 32 := 1#32
  let v230 : BitVec 32 := Scalar.select v229 c1_i32_167 c8_i32_165
  let v231 : BitVec 32 := Scalar.remsi v228 v230
  let c0_i32_169 : BitVec 32 := 0#32
  let v233 : BitVec 1 := Scalar.cmpi .slt v231 c0_i32_169
  let c0_i32_170 : BitVec 32 := 0#32
  let v234 : BitVec 1 := Scalar.cmpi .slt v230 c0_i32_170
  let v235 : BitVec 1 := Scalar.xori v233 v234
  let c0_i32_168 : BitVec 32 := 0#32
  let v232 : BitVec 1 := Scalar.cmpi .ne v231 c0_i32_168
  let v236 : BitVec 1 := Scalar.andi v235 v232
  let v237 : BitVec 32 := Scalar.addi v231 v230
  let v238 : BitVec 32 := Scalar.select v236 v237 v231
  let c1_i32_190 : BitVec 32 := 1#32
  let v261 : BitVec 32 := Scalar.muli v238 c1_i32_190
  let v262 : BitVec 32 := Scalar.addi c0_i32_191 v261
  v262.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_203 : BitVec 32 := 4#32
  let v277 : BitVec 32 := Scalar.addi v2 c4_i32_203
  let c8_i32_204 : BitVec 32 := 8#32
  let c0_i32_205 : BitVec 32 := 0#32
  let v278 : BitVec 1 := Scalar.cmpi .eq c8_i32_204 c0_i32_205
  let c1_i32_206 : BitVec 32 := 1#32
  let v279 : BitVec 32 := Scalar.select v278 c1_i32_206 c8_i32_204
  let v280 : BitVec 32 := Scalar.remsi v277 v279
  let c0_i32_208 : BitVec 32 := 0#32
  let v282 : BitVec 1 := Scalar.cmpi .slt v280 c0_i32_208
  let c0_i32_209 : BitVec 32 := 0#32
  let v283 : BitVec 1 := Scalar.cmpi .slt v279 c0_i32_209
  let v284 : BitVec 1 := Scalar.xori v282 v283
  let c0_i32_207 : BitVec 32 := 0#32
  let v281 : BitVec 1 := Scalar.cmpi .ne v280 c0_i32_207
  let v285 : BitVec 1 := Scalar.andi v284 v281
  let v286 : BitVec 32 := Scalar.addi v280 v279
  let v287 : BitVec 32 := Scalar.select v285 v286 v280
  let c1_i32_229 : BitVec 32 := 1#32
  let v310 : BitVec 32 := Scalar.muli v287 c1_i32_229
  let v311 : BitVec 32 := Scalar.addi c0_i32_230 v310
  v311.toNat
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_242 : BitVec 32 := 5#32
  let v326 : BitVec 32 := Scalar.addi v2 c5_i32_242
  let c8_i32_243 : BitVec 32 := 8#32
  let c0_i32_244 : BitVec 32 := 0#32
  let v327 : BitVec 1 := Scalar.cmpi .eq c8_i32_243 c0_i32_244
  let c1_i32_245 : BitVec 32 := 1#32
  let v328 : BitVec 32 := Scalar.select v327 c1_i32_245 c8_i32_243
  let v329 : BitVec 32 := Scalar.remsi v326 v328
  let c0_i32_247 : BitVec 32 := 0#32
  let v331 : BitVec 1 := Scalar.cmpi .slt v329 c0_i32_247
  let c0_i32_248 : BitVec 32 := 0#32
  let v332 : BitVec 1 := Scalar.cmpi .slt v328 c0_i32_248
  let v333 : BitVec 1 := Scalar.xori v331 v332
  let c0_i32_246 : BitVec 32 := 0#32
  let v330 : BitVec 1 := Scalar.cmpi .ne v329 c0_i32_246
  let v334 : BitVec 1 := Scalar.andi v333 v330
  let v335 : BitVec 32 := Scalar.addi v329 v328
  let v336 : BitVec 32 := Scalar.select v334 v335 v329
  let c1_i32_268 : BitVec 32 := 1#32
  let v359 : BitVec 32 := Scalar.muli v336 c1_i32_268
  let v360 : BitVec 32 := Scalar.addi c0_i32_269 v359
  v360.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_281 : BitVec 32 := 6#32
  let v375 : BitVec 32 := Scalar.addi v2 c6_i32_281
  let c8_i32_282 : BitVec 32 := 8#32
  let c0_i32_283 : BitVec 32 := 0#32
  let v376 : BitVec 1 := Scalar.cmpi .eq c8_i32_282 c0_i32_283
  let c1_i32_284 : BitVec 32 := 1#32
  let v377 : BitVec 32 := Scalar.select v376 c1_i32_284 c8_i32_282
  let v378 : BitVec 32 := Scalar.remsi v375 v377
  let c0_i32_286 : BitVec 32 := 0#32
  let v380 : BitVec 1 := Scalar.cmpi .slt v378 c0_i32_286
  let c0_i32_287 : BitVec 32 := 0#32
  let v381 : BitVec 1 := Scalar.cmpi .slt v377 c0_i32_287
  let v382 : BitVec 1 := Scalar.xori v380 v381
  let c0_i32_285 : BitVec 32 := 0#32
  let v379 : BitVec 1 := Scalar.cmpi .ne v378 c0_i32_285
  let v383 : BitVec 1 := Scalar.andi v382 v379
  let v384 : BitVec 32 := Scalar.addi v378 v377
  let v385 : BitVec 32 := Scalar.select v383 v384 v378
  let c1_i32_307 : BitVec 32 := 1#32
  let v408 : BitVec 32 := Scalar.muli v385 c1_i32_307
  let v409 : BitVec 32 := Scalar.addi c0_i32_308 v408
  v409.toNat
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_320 : BitVec 32 := 7#32
  let v424 : BitVec 32 := Scalar.addi v2 c7_i32_320
  let c8_i32_321 : BitVec 32 := 8#32
  let c0_i32_322 : BitVec 32 := 0#32
  let v425 : BitVec 1 := Scalar.cmpi .eq c8_i32_321 c0_i32_322
  let c1_i32_323 : BitVec 32 := 1#32
  let v426 : BitVec 32 := Scalar.select v425 c1_i32_323 c8_i32_321
  let v427 : BitVec 32 := Scalar.remsi v424 v426
  let c0_i32_325 : BitVec 32 := 0#32
  let v429 : BitVec 1 := Scalar.cmpi .slt v427 c0_i32_325
  let c0_i32_326 : BitVec 32 := 0#32
  let v430 : BitVec 1 := Scalar.cmpi .slt v426 c0_i32_326
  let v431 : BitVec 1 := Scalar.xori v429 v430
  let c0_i32_324 : BitVec 32 := 0#32
  let v428 : BitVec 1 := Scalar.cmpi .ne v427 c0_i32_324
  let v432 : BitVec 1 := Scalar.andi v431 v428
  let v433 : BitVec 32 := Scalar.addi v427 v426
  let v434 : BitVec 32 := Scalar.select v432 v433 v427
  let c1_i32_346 : BitVec 32 := 1#32
  let v457 : BitVec 32 := Scalar.muli v434 c1_i32_346
  let v458 : BitVec 32 := Scalar.addi c0_i32_347 v457
  v458.toNat
def k0_off5 (d0 : Dev nD) (c1_i32_359 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v473 : BitVec 32 := Scalar.addi v2 c1_i32_359
  let c8_i32_360 : BitVec 32 := 8#32
  let c0_i32_361 : BitVec 32 := 0#32
  let v474 : BitVec 1 := Scalar.cmpi .eq c8_i32_360 c0_i32_361
  let c1_i32_362 : BitVec 32 := 1#32
  let v475 : BitVec 32 := Scalar.select v474 c1_i32_362 c8_i32_360
  let v476 : BitVec 32 := Scalar.remsi v473 v475
  let c0_i32_364 : BitVec 32 := 0#32
  let v478 : BitVec 1 := Scalar.cmpi .slt v476 c0_i32_364
  let c0_i32_365 : BitVec 32 := 0#32
  let v479 : BitVec 1 := Scalar.cmpi .slt v475 c0_i32_365
  let v480 : BitVec 1 := Scalar.xori v478 v479
  let c0_i32_363 : BitVec 32 := 0#32
  let v477 : BitVec 1 := Scalar.cmpi .ne v476 c0_i32_363
  let v481 : BitVec 1 := Scalar.andi v480 v477
  let v482 : BitVec 32 := Scalar.addi v476 v475
  let v483 : BitVec 32 := Scalar.select v481 v482 v476
  ![v483.toNat]
def k0_off6 (d0 : Dev nD) (c1_i32_359 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v473 : BitVec 32 := Scalar.addi v2 c1_i32_359
  let c8_i32_360 : BitVec 32 := 8#32
  let c0_i32_361 : BitVec 32 := 0#32
  let v474 : BitVec 1 := Scalar.cmpi .eq c8_i32_360 c0_i32_361
  let c1_i32_362 : BitVec 32 := 1#32
  let v475 : BitVec 32 := Scalar.select v474 c1_i32_362 c8_i32_360
  let v476 : BitVec 32 := Scalar.remsi v473 v475
  let c0_i32_364 : BitVec 32 := 0#32
  let v478 : BitVec 1 := Scalar.cmpi .slt v476 c0_i32_364
  let c0_i32_365 : BitVec 32 := 0#32
  let v479 : BitVec 1 := Scalar.cmpi .slt v475 c0_i32_365
  let v480 : BitVec 1 := Scalar.xori v478 v479
  let c0_i32_363 : BitVec 32 := 0#32
  let v477 : BitVec 1 := Scalar.cmpi .ne v476 c0_i32_363
  let v481 : BitVec 1 := Scalar.andi v480 v477
  let v482 : BitVec 32 := Scalar.addi v476 v475
  let v483 : BitVec 32 := Scalar.select v481 v482 v476
  let c0_i32_370 : BitVec 32 := 0#32
  let c0_i32_371 : BitVec 32 := 0#32
  ![v483.toNat, 0, 0]
def k0_off7 (d0 : Dev nD) (c1_i32_359 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v473 : BitVec 32 := Scalar.addi v2 c1_i32_359
  let c8_i32_360 : BitVec 32 := 8#32
  let c0_i32_361 : BitVec 32 := 0#32
  let v474 : BitVec 1 := Scalar.cmpi .eq c8_i32_360 c0_i32_361
  let c1_i32_362 : BitVec 32 := 1#32
  let v475 : BitVec 32 := Scalar.select v474 c1_i32_362 c8_i32_360
  let v476 : BitVec 32 := Scalar.remsi v473 v475
  let c0_i32_364 : BitVec 32 := 0#32
  let v478 : BitVec 1 := Scalar.cmpi .slt v476 c0_i32_364
  let c0_i32_365 : BitVec 32 := 0#32
  let v479 : BitVec 1 := Scalar.cmpi .slt v475 c0_i32_365
  let v480 : BitVec 1 := Scalar.xori v478 v479
  let c0_i32_363 : BitVec 32 := 0#32
  let v477 : BitVec 1 := Scalar.cmpi .ne v476 c0_i32_363
  let v481 : BitVec 1 := Scalar.andi v480 v477
  let v482 : BitVec 32 := Scalar.addi v476 v475
  let v483 : BitVec 32 := Scalar.select v481 v482 v476
  let v492 : Index := Scalar.indexCast v483
  let c0_374 : Index := 0#32
  let c0_375 : Index := 0#32
  ![v492.toNat, 0, 0]
def k0_off8 (d0 : Dev nD) (c1_i32_359 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v473 : BitVec 32 := Scalar.addi v2 c1_i32_359
  let c8_i32_360 : BitVec 32 := 8#32
  let c0_i32_361 : BitVec 32 := 0#32
  let v474 : BitVec 1 := Scalar.cmpi .eq c8_i32_360 c0_i32_361
  let c1_i32_362 : BitVec 32 := 1#32
  let v475 : BitVec 32 := Scalar.select v474 c1_i32_362 c8_i32_360
  let v476 : BitVec 32 := Scalar.remsi v473 v475
  let c0_i32_364 : BitVec 32 := 0#32
  let v478 : BitVec 1 := Scalar.cmpi .slt v476 c0_i32_364
  let c0_i32_365 : BitVec 32 := 0#32
  let v479 : BitVec 1 := Scalar.cmpi .slt v475 c0_i32_365
  let v480 : BitVec 1 := Scalar.xori v478 v479
  let c0_i32_363 : BitVec 32 := 0#32
  let v477 : BitVec 1 := Scalar.cmpi .ne v476 c0_i32_363
  let v481 : BitVec 1 := Scalar.andi v480 v477
  let v482 : BitVec 32 := Scalar.addi v476 v475
  let v483 : BitVec 32 := Scalar.select v481 v482 v476
  let c512_i32_376 : BitVec 32 := 512#32
  let v496 : BitVec 32 := Scalar.muli v483 c512_i32_376
  let v497 : Index := Scalar.indexCast v496
  let c0_377 : Index := 0#32
  ![v497.toNat, 0]
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Slots.lean ====
/-
# The exchange kernel's geometry and values

Eight devices stand on a ring. At step `t` a device computes the tile it owes to the device `t` places after it and
sends it there. This module names the ring shift `up`, the buffers and their blocks (the eight slots of the send and
receive buffers, the eight row blocks of the result, the eight column blocks of the weight), the semaphores, and the
values that travel: the tile a device makes for another and the block of rows a device ends up with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Writes

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## The ring -/

/-- The device `d` places after `c`. -/
def up (c : Dev nD) (d : ℕ) : Dev nD := ⟨(c.val + d) % 8, Nat.mod_lt _ (by decide)⟩

/-- How many places after `c` the device `s` stands. -/
def gap (c s : Dev nD) : Fin 8 := ⟨(s.val + (8 - c.val)) % 8, Nat.mod_lt _ (by decide)⟩

theorem up_gap : ∀ c s : Dev nD, up c (gap c s).val = s := by decide +kernel
theorem gap_up : ∀ (c : Dev nD) (d : Fin 8), gap c (up c d.val) = d := by decide +kernel

/-- Counting from `c` numbers the devices. -/
def around (c : Dev nD) : Fin 8 ≃ Dev nD := ⟨fun d => up c d.val, gap c, gap_up c, up_gap c⟩

theorem up_ne : ∀ (c : Dev nD) (d : Fin 8), d ≠ 0 → up c d.val ≠ c := by decide +kernel
theorem up_zero : ∀ c : Dev nD, up c 0 = c := by decide +kernel

theorem dev1_eq : ∀ c : Dev nD, (⟨k0_dev1 c, k0_dev1_lt c⟩ : Dev nD) = up c 1 := by decide +kernel
theorem dev2_eq : ∀ c : Dev nD, (⟨k0_dev2 c, k0_dev2_lt c⟩ : Dev nD) = up c 2 := by decide +kernel
theorem dev3_eq : ∀ c : Dev nD, (⟨k0_dev3 c, k0_dev3_lt c⟩ : Dev nD) = up c 3 := by decide +kernel
theorem dev4_eq : ∀ c : Dev nD, (⟨k0_dev4 c, k0_dev4_lt c⟩ : Dev nD) = up c 4 := by decide +kernel
theorem dev5_eq : ∀ c : Dev nD, (⟨k0_dev5 c, k0_dev5_lt c⟩ : Dev nD) = up c 5 := by decide +kernel
theorem dev6_eq : ∀ c : Dev nD, (⟨k0_dev6 c, k0_dev6_lt c⟩ : Dev nD) = up c 6 := by decide +kernel
theorem dev7_eq : ∀ c : Dev nD, (⟨k0_dev7 c, k0_dev7_lt c⟩ : Dev nD) = up c 7 := by decide +kernel
theorem dev8_eq : ∀ c : Dev nD, (⟨k0_dev8 c, k0_dev8_lt c⟩ : Dev nD) = up c 1 := by decide +kernel
theorem dev9_eq : ∀ c : Dev nD, (⟨k0_dev9 c, k0_dev9_lt c⟩ : Dev nD) = up c 2 := by decide +kernel
theorem dev10_eq : ∀ c : Dev nD, (⟨k0_dev10 c, k0_dev10_lt c⟩ : Dev nD) = up c 3 := by decide +kernel
theorem dev11_eq : ∀ c : Dev nD, (⟨k0_dev11 c, k0_dev11_lt c⟩ : Dev nD) = up c 4 := by decide +kernel
theorem dev12_eq : ∀ c : Dev nD, (⟨k0_dev12 c, k0_dev12_lt c⟩ : Dev nD) = up c 5 := by decide +kernel
theorem dev13_eq : ∀ c : Dev nD, (⟨k0_dev13 c, k0_dev13_lt c⟩ : Dev nD) = up c 6 := by decide +kernel
theorem dev14_eq : ∀ c : Dev nD, (⟨k0_dev14 c, k0_dev14_lt c⟩ : Dev nD) = up c 7 := by decide +kernel

theorem off1_at : ∀ (c : Dev nD) (t : Fin 8), k0_off1 c (BitVec.ofNat 32 t.val) = ![0, 1024 * (up c t.val).val] := by
  decide +kernel
theorem off5_at : ∀ (c : Dev nD) (d : Fin 7), k0_off5 c (BitVec.ofNat 32 (1 + d.val)) = ![(up c (1 + d.val)).val] := by
  decide +kernel
theorem off6_at : ∀ (c : Dev nD) (d : Fin 7), k0_off6 c (BitVec.ofNat 32 (1 + d.val)) = ![(up c (1 + d.val)).val, 0, 0] := by
  decide +kernel
theorem off7_at : ∀ (c : Dev nD) (d : Fin 7), k0_off7 c (BitVec.ofNat 32 (1 + d.val)) = ![(up c (1 + d.val)).val, 0, 0] := by
  decide +kernel
theorem off8_at : ∀ (c : Dev nD) (d : Fin 7), k0_off8 c (BitVec.ofNat 32 (1 + d.val)) = ![512 * (up c (1 + d.val)).val, 0] := by
  decide +kernel

/-! ## The buffers and their blocks -/

abbrev xM : Memref sig .tc .vmem S512x4096 .fp8e4m3 := Memref.whole cc0_stg0_0
abbrev wM : Memref sig .tc .hbm S4096x8192 .fp8e5m2 := Memref.whole main_arg1
abbrev sxM : Memref sig .tc .smem S1 .f32 := Memref.whole cc0_stg1_0
abbrev swM : Memref sig .tc .smem S1 .f32 := Memref.whole cc0_stg2_0
abbrev oM : Memref sig .tc .vmem S4096x1024 .f32 := Memref.whole cc0_stg3_0
abbrev tM : Memref sig .tc .vmem S2x4096x1024 .fp8e5m2 := Memref.whole cc0_scratch0
abbrev sM : Memref sig .tc .vmem S8x512x1024 .bf16 := Memref.whole cc0_scratch1
abbrev rM : Memref sig .tc .vmem S8x512x1024 .bf16 := Memref.whole cc0_scratch2

theorem slot_inb : ∀ t : Fin 8, ∀ a, (![t.val, 0, 0] : Fin 3 → Nat) a + S1x512x1024.size a ≤ S8x512x1024.size a := by
  decide
theorem half_inb : ∀ b : Fin 2, ∀ a, (![b.val, 0, 0] : Fin 3 → Nat) a + S1x4096x1024.size a ≤ S2x4096x1024.size a := by
  decide
theorem col_inb : ∀ j : Fin 8, ∀ a, (![0, 1024 * j.val] : Fin 2 → Nat) a + S4096x1024.size a ≤ S4096x8192.size a := by
  decide
theorem rows_inb : ∀ s : Fin 8, ∀ a, (![512 * s.val, 0] : Fin 2 → Nat) a + S512x1024.size a ≤ S4096x1024.size a := by
  decide

/-- Slot `t` of an eight-slot buffer. -/
abbrev slotR (t : Fin 8) : Rect S8x512x1024 := Rect.unit (s := S8x512x1024) ![t.val, 0, 0] S1x512x1024.size (slot_inb t)
/-- Half `b` of the weight's double buffer. -/
abbrev halfR (b : Fin 2) : Rect S2x4096x1024 := Rect.unit (s := S2x4096x1024) ![b.val, 0, 0] S1x4096x1024.size (half_inb b)
/-- Column block `j` of the weight. -/
abbrev colR (j : Fin 8) : Rect S4096x8192 := Rect.unit (s := S4096x8192) ![0, 1024 * j.val] S4096x1024.size (col_inb j)
/-- Row block `s` of the result. -/
abbrev rowsR (s : Fin 8) : Rect S4096x1024 := Rect.unit (s := S4096x1024) ![512 * s.val, 0] S512x1024.size (rows_inb s)

abbrev sSlot (t : Fin 8) : Memref sig .tc .vmem S1x512x1024 .bf16 := sM.slice (slotR t) (fun _ => rfl)
abbrev rSlot (s : Fin 8) : Memref sig .tc .vmem S1x512x1024 .bf16 := rM.slice (slotR s) (fun _ => rfl)
abbrev tSlot (b : Fin 2) : Memref sig .tc .vmem S1x4096x1024 .fp8e5m2 := tM.slice (halfR b) (fun _ => rfl)
/-- The send slot as the transfer names it, its leading axis dropped. -/
abbrev sSq (t : Fin 8) : Memref sig .tc .vmem S512x1024 .bf16 := (sSlot t).squeeze S512x1024 squeezes_S1x512x1024_S512x1024
/-- The receive slot as the transfer names it, its leading axis dropped. -/
abbrev rSq (s : Fin 8) : Memref sig .tc .vmem S512x1024 .bf16 := (rSlot s).squeeze S512x1024 squeezes_S1x512x1024_S512x1024
/-- Half of the weight's buffer as the copy names it, its leading axis dropped. -/
abbrev tSq (b : Fin 2) : Memref sig .tc .vmem S4096x1024 .fp8e5m2 := (tSlot b).squeeze S4096x1024 squeezes_S1x4096x1024_S4096x1024
/-- The column block of the weight as the copy names it. -/
abbrev wCol (j : Fin 8) : Memref sig .tc .hbm S4096x1024 .fp8e5m2 := wM.slice (colR j) (fun _ => rfl)

/-! ## The semaphores -/

abbrev barS : SemLoc sig := .reg ((SemArray.scalar (sig.barrier 0 rfl) : Sems sig S_).sem)
/-- The semaphore of the weight's copies. -/
abbrev loadS : DmaSem sig := (cc0_scratch3 : DmaSems sig S_).sem
/-- The semaphore counting what has left from send slot `t`. -/
def sendS (t : Fin 8) : DmaSem sig := ⟨5 + t.val, by show 5 + t.val < 21; omega⟩
/-- The semaphore counting what has landed in receive slot `s`. -/
def recvS (s : Fin 8) : DmaSem sig := ⟨13 + s.val, by show 13 + s.val < 21; omega⟩

theorem one_inb : ∀ t : Fin 8, ∀ a, (![t.val] : Fin 1 → Nat) a + S1.size a ≤ S8.size a := by decide

theorem send_sem (t : Fin 8) :
    ((cc0_scratch4.slice (Rect.unit (s := S8) ![t.val] S1.size (one_inb t))).squeeze S_ squeezes_S1_S_).sem = sendS t := by
  revert t; decide +kernel
theorem recv_sem (t : Fin 8) :
    ((cc0_scratch5.slice (Rect.unit (s := S8) ![t.val] S1.size (one_inb t))).squeeze S_ squeezes_S1_S_).sem = recvS t := by
  revert t; decide +kernel

/-- The send semaphore, sliced at any offsets that come to `t`. -/
theorem send_sem_at {o : Fin 1 → Nat} (t : Fin 8) (ho : o = ![t.val]) (h : ∀ a, o a + S1.size a ≤ S8.size a) :
    ((cc0_scratch4.slice (Rect.unit (s := S8) o S1.size h)).squeeze S_ squeezes_S1_S_).sem = sendS t := by
  subst ho; exact send_sem t
/-- The receive semaphore, sliced at any offsets that come to `t`. -/
theorem recv_sem_at {o : Fin 1 → Nat} (t : Fin 8) (ho : o = ![t.val]) (h : ∀ a, o a + S1.size a ≤ S8.size a) :
    ((cc0_scratch5.slice (Rect.unit (s := S8) o S1.size h)).squeeze S_ squeezes_S1_S_).sem = recvS t := by
  subst ho; exact recv_sem t

/-! ## The element sets -/

/-- The elements of a slot. -/
abbrev slotSet (t : Fin 8) : Finset S8x512x1024.Idx := (slotR t).set

theorem sSq_set (t : Fin 8) : (sSq t).view.set = slotSet t :=
  (View.set_reshape (sSlot t).view _).trans (View.set_slice_whole cc0_scratch1 (slotR t))
theorem rSq_set (t : Fin 8) : (rSq t).view.set = slotSet t :=
  (View.set_reshape (rSlot t).view _).trans (View.set_slice_whole cc0_scratch2 (slotR t))

theorem whole_setOn (b : Ref sig .tc) (M : Finset b.ty.shape.Idx) : (View.whole b : View sig .tc _ _ _).setOn M = M := by
  ext i
  simp only [View.setOn, Finset.mem_map]
  exact ⟨fun ⟨a, ha, e⟩ => by subst e; exact ha, fun h => ⟨i, h, rfl⟩⟩

theorem slots_disjoint (t u : Fin 8) (h : t ≠ u) : Disjoint (slotSet t) (slotSet u) := by
  refine Rect.unit_disjoint (0 : Fin 3) ?_
  have : t.val ≠ u.val := fun e => h (Fin.ext e)
  show t.val + 1 ≤ u.val ∨ u.val + 1 ≤ t.val
  omega

theorem slots_cover : (Finset.univ : Finset (Fin 8)).biUnion slotSet = Finset.univ := by
  ext i
  simp only [Finset.mem_biUnion, Finset.mem_univ, true_and, iff_true]
  refine ⟨⟨(i 0).val, (i 0).isLt⟩, Rect.mem_set_unit.2 fun a => ?_⟩
  have h1 := (i 1).isLt
  have h2 := (i 2).isLt
  fin_cases a
  · exact ⟨Nat.le_refl _, Nat.lt_succ_self _⟩
  · exact ⟨Nat.zero_le _, by simpa using h1⟩
  · exact ⟨Nat.zero_le _, by simpa using h2⟩

/-! ## Reading what a reshaped window wrote -/

/-- A window written whole through a reshaping of itself reads as the written values reshaped back. -/
theorem read_written_reshaped {κ : Kind} {sp : Space} {s : Shape} {e : EltTy} (v : View sig κ sp s e) (s' : Shape)
    (h : s'.numel = s.numel) (f : v.ty.Contents (Elt F)) (w : s'.Idx → Elt F e) :
    v.read (Elt F) ((v.reshape s' h).write (Elt F) f w Finset.univ) = fun x => w ((Shape.reshapeEquiv h).symm x) := by
  rw [View.write_reshape_univ, View.read_write_univ]

/-! ## The values -/

variable (m : (ℓ : Loc nD τ sig) → Buf (Elt F) ℓ)

theorem one_pos : 0 < S1.numel := by decide

/-- Device `c`'s rows of `x`, as staged. -/
def xBlk (c : Dev nD) : Vec F S512x4096 .fp8e4m3 := iblk m c 0 t0_0
/-- The first scale, as device `c` holds it. -/
def scaleX (c : Dev nD) : F .f32 := (iblk m c 1 t0_0 : S1.Idx → Elt F .f32) (Shape.Idx.first one_pos)
/-- The second scale, as device `c` holds it. -/
def scaleW (c : Dev nD) : F .f32 := (iblk m c 2 t0_0 : S1.Idx → Elt F .f32) (Shape.Idx.first one_pos)
/-- Column block `j` of the weight, as device `c` holds it. -/
def wBlk (c : Dev nD) (j : Fin 8) : Vec F S1x4096x1024 .fp8e5m2 := fun x =>
  (wCol j).view.read (Elt F) (V m c main_arg1) ((Shape.reshapeEquiv squeezes_S1x4096x1024_S4096x1024.numel_eq).symm x)
/-- The tile device `c` makes for device `j`. -/
def tile (c : Dev nD) (j : Fin 8) : Vec F S1x512x1024 .bf16 :=
  k0_pay6 (k0_pay2 (scaleX m c) (scaleW m c)) (xBlk m c) (wBlk m c j)
/-- Row block `s` of what device `c` ends up with: its own tile unrounded, another device's as received. -/
def rowsOf (c s : Dev nD) : Vec F S512x1024 .f32 :=
  if s = c then k0_pay3 (scaleX m c) (scaleW m c) (xBlk m c) (wBlk m c c) else k0_pay1 (tile m s c)

theorem rowsOf_self (c : Dev nD) : rowsOf m c c = k0_pay3 (scaleX m c) (scaleW m c) (xBlk m c) (wBlk m c c) := if_pos rfl
theorem rowsOf_other {c s : Dev nD} (h : s ≠ c) : rowsOf m c s = k0_pay1 (tile m s c) := if_neg h

/-- The row block a row of the result lies in. -/
def rowBlock (i : S4096x1024.Idx) : Fin 8 := ⟨(i 0).val / 512, by have h : (i 0).val < 4096 := (i 0).isLt; omega⟩
/-- Where in its row block an element of the result lies. -/
def inBlock (i : S4096x1024.Idx) : S512x1024.Idx
  | 0 => ⟨(i 0).val % 512, Nat.mod_lt _ (by decide)⟩
  | 1 => ⟨(i 1).val, (i 1).isLt⟩

theorem rows_emb (i : S4096x1024.Idx) : (rowsR (rowBlock i)).emb (inBlock i) = i := by
  funext a
  refine Fin.ext ?_
  rw [Rect.emb_apply]
  fin_cases a
  · show 512 * ((i 0).val / 512) + 1 * ((i 0).val % 512) = (i 0).val
    omega
  · show 0 + 1 * (i 1).val = (i 1).val
    omega

/-- What device `c` ends up with. -/
def outAt (c : Dev nD) : S4096x1024.Idx → Elt F .f32 := fun i => rowsOf m c (rowBlock i) (inBlock i)

/-- Row block `s` of the result's buffer. -/
abbrev oRows (s : Fin 8) := (oM : Memref sig .tc .vmem S4096x1024 .f32).view.slice (rowsR s)

/-- Contents whose eight row blocks are right are the result. -/
theorem eq_outAt (c : Dev nD) (f : (cc0_stg3_0 : Ref sig .tc).ty.Contents (Elt F))
    (h : ∀ s, (oRows s).read (Elt F) f = rowsOf m c s) : f = outAt m c := by
  funext i
  have e := congrFun (h (rowBlock i)) (inBlock i)
  rw [View.read_apply] at e
  refine Eq.trans ?_ e
  show f i = f ((rowsR (rowBlock i)).emb (inBlock i))
  rw [rows_emb]

/-- Row blocks other than the one written keep what they read. -/
theorem rows_write_other {s u : Fin 8} (h : u ≠ s) (f : (cc0_stg3_0 : Ref sig .tc).ty.Contents (Elt F))
    (w : S512x1024.Idx → Elt F .f32) :
    (oRows u).read (Elt F) ((oRows s).write (Elt F) f w Finset.univ) = (oRows u).read (Elt F) f := by
  funext x
  have hne : u.val ≠ s.val := fun e => h (Fin.ext e)
  refine View.read_slice_write_of_not_mem (v := (oM : Memref sig .tc .vmem S4096x1024 .f32).view) (rowsR s) f w Finset.univ
    (y := (rowsR u).emb x) ?_
  intro hm
  rw [Rect.map_emb_univ] at hm
  have h1 := (Rect.mem_set_unit.1 hm) 0
  have h2 : ((rowsR u).emb x 0).val = 512 * u.val + 1 * (x 0).val := Rect.emb_apply _ _ _
  have h3 : (x 0).val < 512 := (x 0).isLt
  have h4 : 512 * s.val ≤ ((rowsR u).emb x 0).val ∧ ((rowsR u).emb x 0).val < 512 * s.val + 512 := h1
  omega

end Cert.KernelIdeal.Exchange

end
-- ==== Proof.Protocol.lean ====
/-
# The exchange's protocol

Every device owns seventeen counters that matter: its barrier, its eight send semaphores and its eight receive
semaphores. Each goes through one round of credits (`Rounds.Schedule`).

* The barrier of device `c` is credited one unit by every other device `p`; the unit brings `c` the slot of `p`'s receive
  buffer that is `c`'s to fill.
* Send semaphore `t` of device `c` (`t ≠ 0`) is credited by `c`'s own transfer when the tile has left; that brings the
  send slot back.
* Receive semaphore `s` of device `c` (`s ≠ c`) is credited by device `s` when its tile has landed; that brings the
  receive slot, holding the tile device `s` makes for `c`.

A device waits at its barrier while it still owes tiles, and for its weight copies and its own sends while it owes
tiles; it waits for tiles only when it owes nothing. The levels `lv` say so.
-/
module

public import proofs.«01_k».proof.Proof.Slots
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, the exchange's, and the counters of copies within a device -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev EQ : Emb (UB × Counters) (MT nD τ sig Unit (Elt F) ℕ UU ℕ) := embR
/-- Where the exchange's own round records live. -/
def ER : Emb UB (MT nD τ sig Unit (Elt F) ℕ UU ℕ) := (Emb.inl : Emb UB (UB × Counters)).trans EQ
abbrev EC : UEmb Counters (MT nD τ sig Unit (Elt F) ℕ UU ℕ) := countersEmb

instance ER_landsIn : (ER : Emb UB 𝕄).LandsIn (upEmb : UEmb _ 𝕄) := by unfold ER EQ; infer_instance

variable (m : (ℓ : Loc nD τ sig) → Buf (Elt F) ℓ) (ρ : Dev nD → PrngReg)

/-! ## The cells -/

abbrev barCell (c : Dev nD) : GSem nD τ sig := ((c : Thread nD τ), barS)
abbrev sendCell (c : Dev nD) (t : Fin 8) : GSem nD τ sig := ((c : Thread nD τ), .dma (sendS t))
abbrev recvCell (c : Dev nD) (s : Fin 8) : GSem nD τ sig := ((c : Thread nD τ), .dma (recvS s))
abbrev loadCell (c : Dev nD) : GSem nD τ sig := ((c : Thread nD τ), .dma loadS)

/-- What a semaphore is for. -/
inductive Role where
  | bar
  | send (t : Fin 8)
  | recv (s : Fin 8)
  | other
  deriving DecidableEq

/-- The role of a semaphore, by its index. -/
def role : SemLoc sig → Role
  | .reg s => if (SemLoc.reg s : SemLoc sig) = barS then .bar else .other
  | .dma q =>
    if h : 13 ≤ q.val then .recv ⟨q.val - 13, by have : q.val < 21 := q.isLt; omega⟩
    else if h' : 5 ≤ q.val then .send ⟨q.val - 5, by omega⟩
    else .other

theorem role_bar : role barS = .bar := by
  show (if (barS : SemLoc sig) = barS then Role.bar else .other) = .bar
  exact if_pos rfl
theorem role_send : ∀ t, role (.dma (sendS t)) = .send t := by decide +kernel
theorem role_recv : ∀ s, role (.dma (recvS s)) = .recv s := by decide +kernel
theorem role_load : role (.dma loadS) = .other := by decide +kernel

/-- The credit of one tile. -/
abbrev N : ℕ := (rSq 0).view.dmaCredit
theorem N_pos : 0 < N := View.dmaCredit_pos _ (by decide)

/-! ## What travels -/

/-- Send slot `t` of device `c`. -/
def sPt (c : Dev nD) (t : Fin 8) (f : Buf (Elt F) ((c : Thread nD τ).loc cc0_scratch1)) : sProp 𝕄 :=
  ((c : Thread nD τ).loc cc0_scratch1) ↦[slotSet t]{fullShare} f
/-- Receive slot `s` of device `c`. -/
def rPt (c : Dev nD) (s : Fin 8) (f : Buf (Elt F) ((c : Thread nD τ).loc cc0_scratch2)) : sProp 𝕄 :=
  ((c : Thread nD τ).loc cc0_scratch2) ↦[slotSet s]{fullShare} f

instance sPt_storable (c : Dev nD) (t : Fin 8) (f) : BI.Storable (upEmb : UEmb _ 𝕄) (sPt (F := F) c t f) := by unfold sPt; infer_instance
instance rPt_storable (c : Dev nD) (s : Fin 8) (f) : BI.Storable (upEmb : UEmb _ 𝕄) (rPt (F := F) c s f) := by unfold rPt; infer_instance

/-- A send slot, whatever it holds. -/
def sendPay (c : Dev nD) (t : Fin 8) : sProp 𝕄 := iprop(∃ f, sPt c t f)
/-- Device `p`'s receive slot for `c`, whatever it holds. -/
def barPay (c p : Dev nD) : sProp 𝕄 := iprop(∃ f, rPt p c f)
/-- Device `c`'s receive slot for `s`, holding the tile device `s` makes for `c`. -/
def recvPay (c s : Dev nD) : sProp 𝕄 := iprop(∃ f, ⌜(rSlot s).view.read (Elt F) f = tile m s c⌝ ∗ rPt c s f)

/-- The duties of a cell of role `k` on device `c`. -/
def dutiesOf (c : Dev nD) : Role → Finset (Fin 8)
  | .bar => Finset.univ.erase c
  | .send t => if t = 0 then ∅ else {0}
  | .recv s => if s = c then ∅ else {0}
  | .other => ∅
/-- What a duty of a cell of role `k` is worth. -/
def amountOf : Role → ℕ
  | .bar => 1
  | _ => N
/-- What duty `d` of a cell of role `k` on device `c` brings. -/
def payOf (c : Dev nD) (d : Fin 8) : Role → sProp 𝕄
  | .bar => barPay c d
  | .send t => sendPay c t
  | .recv s => recvPay m c s
  | .other => iprop(emp)

instance payOf_storable (c : Dev nD) (d : Fin 8) (k : Role) : BI.Storable (upEmb : UEmb _ 𝕄) (payOf (F := F) m c d k) := by
  cases k
  · show BI.Storable upEmb (barPay c d); unfold barPay; infer_instance
  · show BI.Storable upEmb (sendPay c _); unfold sendPay; infer_instance
  · show BI.Storable upEmb (recvPay m c _); unfold recvPay; infer_instance
  · show BI.Storable upEmb iprop(emp); infer_instance

/-- The exchange's schedule: one round. -/
def Rd : Rounds.Schedule (GSem nD τ sig) (Fin 8) 𝕄 where
  duties g r := if r = 0 ∧ g.1.2 = .tc then dutiesOf g.1.1 (role g.2) else ∅
  unitless _ := False
  amount g _ _ := amountOf (role g.2)
  payload g _ d := payOf m g.1.1 d (role g.2)
  amount_pos g _ _ _ := by
    show 0 < amountOf (role g.2)
    cases role g.2
    · exact Nat.one_pos
    all_goals exact N_pos

instance Rd_payload_storable (g : GSem nD τ sig) (r : ℕ) (d : Fin 8) :
    BI.Storable (upEmb : UEmb _ 𝕄) ((Rd (F := F) m).payload g r d) := payOf_storable m _ _ _

section Sched
variable (c : Dev nD)

theorem duties_tc (sm : SemLoc sig) : (Rd (F := F) m).duties ((c : Thread nD τ), sm) 0 = dutiesOf c (role sm) := by
  dsimp only [Rd]; exact if_pos ⟨rfl, rfl⟩
theorem duties_bar : (Rd (F := F) m).duties (barCell c) 0 = Finset.univ.erase c := by rw [duties_tc, role_bar]; rfl
theorem duties_send {t : Fin 8} (h : t ≠ 0) : (Rd (F := F) m).duties (sendCell c t) 0 = {0} := by
  rw [duties_tc, role_send]; exact if_neg h
theorem duties_recv {s : Fin 8} (h : s ≠ c) : (Rd (F := F) m).duties (recvCell c s) 0 = {0} := by
  rw [duties_tc, role_recv]; exact if_neg h
theorem duties_later (g : GSem nD τ sig) : ∀ r, 1 ≤ r → (Rd (F := F) m).duties g r = ∅ :=
  fun r hr => if_neg fun h => by omega
theorem duties_send_none (r : ℕ) : (Rd (F := F) m).duties (sendCell c 0) r = ∅ := by
  rcases Nat.eq_zero_or_pos r with rfl | h
  · rw [duties_tc, role_send]; rfl
  · exact duties_later m _ r h
theorem duties_recv_none (r : ℕ) : (Rd (F := F) m).duties (recvCell c c) r = ∅ := by
  rcases Nat.eq_zero_or_pos r with rfl | h
  · rw [duties_tc, role_recv]; dsimp only [dutiesOf]; exact if_pos rfl
  · exact duties_later m _ r h

theorem amount_bar (d : Fin 8) : (Rd (F := F) m).amount (barCell c) 0 d = 1 := by
  show amountOf (role barS) = 1; rw [role_bar]; rfl
theorem amount_send (t d : Fin 8) : (Rd (F := F) m).amount (sendCell c t) 0 d = N := by
  show amountOf (role (.dma (sendS t))) = N; rw [role_send]; rfl
theorem amount_recv (s d : Fin 8) : (Rd (F := F) m).amount (recvCell c s) 0 d = N := by
  show amountOf (role (.dma (recvS s))) = N; rw [role_recv]; rfl

theorem payload_bar (d : Fin 8) : (Rd (F := F) m).payload (barCell c) 0 d = barPay c d := by
  show payOf m c d (role barS) = _; rw [role_bar]; rfl
theorem payload_send (t d : Fin 8) : (Rd (F := F) m).payload (sendCell c t) 0 d = sendPay c t := by
  show payOf m c d (role (.dma (sendS t))) = _; rw [role_send]; rfl
theorem payload_recv (s d : Fin 8) : (Rd (F := F) m).payload (recvCell c s) 0 d = recvPay m c s := by
  show payOf m c d (role (.dma (recvS s))) = _; rw [role_recv]; rfl

theorem card_others : ∀ c : Dev nD, ((Finset.univ : Finset (Dev nD)).erase c).card = 7 := by decide

theorem expect_bar : (Rd (F := F) m).expect (barCell c) 0 = 7 := by
  unfold Schedule.expect Schedule.amountOf
  rw [duties_bar, Finset.sum_congr rfl fun d _ => amount_bar m c d, Finset.sum_const, smul_eq_mul, mul_one]
  exact card_others c
theorem expect_send {t : Fin 8} (h : t ≠ 0) : (Rd (F := F) m).expect (sendCell c t) 0 = N := by
  unfold Schedule.expect Schedule.amountOf; rw [duties_send m c h, Finset.sum_singleton, amount_send]
theorem expect_recv {s : Fin 8} (h : s ≠ c) : (Rd (F := F) m).expect (recvCell c s) 0 = N := by
  unfold Schedule.expect Schedule.amountOf; rw [duties_recv m c h, Finset.sum_singleton, amount_recv]

theorem rest_bar : bigSep ((Rd (F := F) m).duties (barCell c) 0 \ ∅) (fun d => (Rd (F := F) m).payload (barCell c) 0 d)
    = bigSep (Finset.univ.erase c) (fun p => barPay c p) := by
  rw [Finset.sdiff_empty, duties_bar]
  exact congrArg (bigSep _) (funext fun d => payload_bar m c d)
theorem rest_send {t : Fin 8} (h : t ≠ 0) :
    bigSep ((Rd (F := F) m).duties (sendCell c t) 0 \ ∅) (fun d => (Rd (F := F) m).payload (sendCell c t) 0 d) = sendPay c t := by
  rw [Finset.sdiff_empty, duties_send m c h, bigSep_singleton, payload_send]
theorem rest_recv {s : Fin 8} (h : s ≠ c) :
    bigSep ((Rd (F := F) m).duties (recvCell c s) 0 \ ∅) (fun d => (Rd (F := F) m).payload (recvCell c s) 0 d) = recvPay m c s := by
  rw [Finset.sdiff_empty, duties_recv m c h, bigSep_singleton, payload_recv]

end Sched

/-! ## The devices counted from one of them -/

/-- A separating conjunction over the devices, listed from `c` around the ring. -/
theorem bigSep_around (c : Dev nD) (Φ : Dev nD → sProp 𝕄) :
    bigSep Finset.univ Φ = iprop(Φ c ∗ Φ (up c 1) ∗ Φ (up c 2) ∗ Φ (up c 3) ∗ Φ (up c 4) ∗ Φ (up c 5) ∗ Φ (up c 6) ∗ Φ (up c 7)) := by
  rw [BI.bigSep_univ_equiv (around c) Φ,
    bigSep_univ_eq_bigSepL [0, 1, 2, 3, 4, 5, 6, 7] (by decide) (by decide) (fun d => Φ (around c d))]
  simp only [bigSepL_cons_cons, bigSepL_singleton]
  show iprop(Φ (up c 0) ∗ _) = _
  rw [up_zero]
  rfl
/-- A separating conjunction over the other devices, listed around the ring. -/
theorem bigSep_others (c : Dev nD) (Φ : Dev nD → sProp 𝕄) :
    bigSep (Finset.univ.erase c) Φ = iprop(Φ (up c 1) ∗ Φ (up c 2) ∗ Φ (up c 3) ∗ Φ (up c 4) ∗ Φ (up c 5) ∗ Φ (up c 6) ∗ Φ (up c 7)) := by
  rw [bigSep_eq_bigSepL_of_eq [up c 1, up c 2, up c 3, up c 4, up c 5, up c 6, up c 7]
    (by revert c; decide +kernel) (by revert c; decide +kernel) Φ]
  simp only [bigSepL_cons_cons, bigSepL_singleton]
  rfl
/-- A separating conjunction over the eight steps, listed. -/
theorem bigSep_steps (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]
  simp only [bigSepL_cons_cons, bigSepL_singleton]
  rfl

/-! ## What each device owes, and the levels -/

/-- The tile device `c` owes the device `d` places after it. -/
abbrev oweTile (c : Dev nD) (d : ℕ) : CellTallies nD τ sig Unit := tallyAt (recvCell (up c d) c) () N
/-- The unit device `c` owes the barrier of the device `d` places after it. -/
abbrev oweBar (c : Dev nD) (d : ℕ) : CellTallies nD τ sig Unit := tallyAt (barCell (up c d)) () 1

/-- The tiles owed from step `t` on, the earliest last. -/
abbrev tilesFrom7 (c : Dev nD) : CellTallies nD τ sig Unit := 0 + oweTile c 7
abbrev tilesFrom6 (c : Dev nD) : CellTallies nD τ sig Unit := tilesFrom7 c + oweTile c 6
abbrev tilesFrom5 (c : Dev nD) : CellTallies nD τ sig Unit := tilesFrom6 c + oweTile c 5
abbrev tilesFrom4 (c : Dev nD) : CellTallies nD τ sig Unit := tilesFrom5 c + oweTile c 4
abbrev tilesFrom3 (c : Dev nD) : CellTallies nD τ sig Unit := tilesFrom4 c + oweTile c 3
abbrev tilesFrom2 (c : Dev nD) : CellTallies nD τ sig Unit := tilesFrom3 c + oweTile c 2
abbrev tilesFrom1 (c : Dev nD) : CellTallies nD τ sig Unit := tilesFrom2 c + oweTile c 1
/-- The whole debt: the tiles, and a unit to every other device's barrier. -/
def O₀ (c : Dev nD) : CellTallies nD τ sig Unit :=
  tilesFrom1 c + oweBar c 7 + oweBar c 6 + oweBar c 5 + oweBar c 4 + oweBar c 3 + oweBar c 2 + oweBar c 1

def L (g : GSem nD τ sig) : Finset Unit := if g.1.2 = .tc then {()} else ∅
/-- Barriers at 1, tile arrivals at 2, the rest at 0. -/
def lv (g : GSem nD τ sig) (_ : Unit) : ℕ :=
  match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show (match role barS with | .bar => 1 | .recv _ => 2 | _ => 0) = 1; rw [role_bar]
theorem lv_recv (c : Dev nD) (s : Fin 8) : lv (recvCell c s) () = 2 := by
  show (match role (.dma (recvS s)) with | .bar => 1 | .recv _ => 2 | _ => 0) = 2; rw [role_recv]
theorem lv_send (c : Dev nD) (s : Fin 8) : lv (sendCell c s) () = 0 := by
  show (match role (.dma (sendS s)) with | .bar => 1 | .recv _ => 2 | _ => 0) = 0; rw [role_send]
theorem lv_load (c : Dev nD) : lv (loadCell c) () = 0 := by
  show (match role (.dma loadS) with | .bar => 1 | .recv _ => 2 | _ => 0) = 0; rw [role_load]

/-- A debt owed only to cells above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with e | e
  · exact h' g u (by omega)
  · exact h g u e
theorem above_tally {n k : ℕ} (c : Dev nD) (sm : SemLoc sig) (h : n < lv ((c : Thread nD τ), sm) ()) :
    Above n (tallyAt ((c : Thread nD τ), sm) () k) := by
  intro g u hg
  rw [tallyAt_apply] at hg
  by_cases e : g = ((c : Thread nD τ), sm) ∧ u = ()
  · rw [e.1]; exact ⟨by rw [L_tc]; exact Finset.mem_singleton_self _, h⟩
  · rw [if_neg e] at hg; exact absurd hg (Nat.lt_irrefl 0)
theorem above_tile (c : Dev nD) (d : ℕ) : Above 1 (oweTile c d) := above_tally _ _ (by rw [lv_recv]; decide)
theorem above_bar (c : Dev nD) (d : ℕ) : Above 0 (oweBar c d) := above_tally _ _ (by rw [lv_bar]; decide)
theorem Above.mono {n k : ℕ} {O : CellTallies nD τ sig Unit} (h : Above n O) (hk : k ≤ n) : Above k O :=
  fun g u hg => ⟨(h g u hg).1, lt_of_le_of_lt hk (h g u hg).2⟩

theorem above7 (c : Dev nD) : Above 1 (tilesFrom7 c) := above_add (above_zero 1) (above_tile c 7)
theorem above6 (c : Dev nD) : Above 1 (tilesFrom6 c) := above_add (above7 c) (above_tile c 6)
theorem above5 (c : Dev nD) : Above 1 (tilesFrom5 c) := above_add (above6 c) (above_tile c 5)
theorem above4 (c : Dev nD) : Above 1 (tilesFrom4 c) := above_add (above5 c) (above_tile c 4)
theorem above3 (c : Dev nD) : Above 1 (tilesFrom3 c) := above_add (above4 c) (above_tile c 3)
theorem above2 (c : Dev nD) : Above 1 (tilesFrom2 c) := above_add (above3 c) (above_tile c 2)
theorem above1 (c : Dev nD) : Above 1 (tilesFrom1 c) := above_add (above2 c) (above_tile c 1)
theorem above_O₀ (c : Dev nD) : Above 0 (O₀ c) := by
  unfold O₀
  exact above_add (above_add (above_add (above_add (above_add (above_add (above_add ((above1 c).mono (by decide))
    (above_bar c 7)) (above_bar c 6)) (above_bar c 5)) (above_bar c 4)) (above_bar c 3)) (above_bar c 2)) (above_bar c 1)

/-- A device may wait on a cell of level at most `n` while it owes only above `n`. -/
theorem mayWait_above (c : Dev nD) (sm : SemLoc sig) (n : ℕ) (hl : lv ((c : Thread nD τ), sm) () ≤ n)
    {O : CellTallies nD τ sig Unit} (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hl) (fun g u hg => (hO g u hg).2)

end Cert.KernelIdeal.Exchange

end
-- ==== Proof.Steps.lean ====
/-
# The exchange, step by step

One lemma per kind of step of the kernel's body, each for any step number: announcing readiness to another device,
meeting the others at the barrier, fetching a column block of the weight, making the device's own row block, making and
sending another device's tile, and taking a tile that has arrived.
-/
module

public import proofs.«01_k».proof.Proof.Protocol

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- The cells of one device: its barrier, its send semaphores, its receive semaphores. -/
abbrev CI : Type := Unit ⊕ (Fin 8 ⊕ Fin 8)
/-- The semaphore of a cell. -/
def csem : CI → SemLoc sig
  | .inl _ => barS
  | .inr (.inl t) => .dma (sendS t)
  | .inr (.inr s) => .dma (recvS s)
abbrev kcell (x : Dev nD × CI) : GSem nD τ sig := ((x.1 : Thread nD τ), csem x.2)

/-- Every cell's invariant, and that it has reached its one round. -/
def records (K : Dev nD × CI → ℕ) : sProp 𝕄 :=
  bigSep Finset.univ fun x : Dev nD × CI => iprop(cellInv ER (Rd m) (K x) (kcell x) ∗ reached ER (kcell x) 0)

instance records_persistent (K : Dev nD × CI → ℕ) : BI.Persistent (records (F := F) m K) := by unfold records; infer_instance

variable (K : Dev nD × CI → ℕ)

theorem record_at (x : Dev nD × CI) :
    records (F := F) m K ⊢ iprop(cellInv ER (Rd m) (K x) (kcell x) ∗ reached ER (kcell x) 0) :=
  bigSep_elim (Finset.mem_univ x)

theorem bar_record (c : Dev nD) : records (F := F) m K ⊢ iprop(cellInv ER (Rd m) (K (c, .inl ())) (barCell c) ∗ reached ER (barCell c) 0) :=
  record_at m K (c, .inl ())
theorem send_record (c : Dev nD) (t : Fin 8) :
    records (F := F) m K ⊢ iprop(cellInv ER (Rd m) (K (c, .inr (.inl t))) (sendCell c t) ∗ reached ER (sendCell c t) 0) :=
  record_at m K (c, .inr (.inl t))
theorem recv_record (c : Dev nD) (s : Fin 8) :
    records (F := F) m K ⊢ iprop(cellInv ER (Rd m) (K (c, .inr (.inr s))) (recvCell c s) ∗ reached ER (recvCell c s) 0) :=
  record_at m K (c, .inr (.inr s))

/-! ## What a device holds between steps -/

/-- What device `c` owes, whatever it has waited for. -/
def debt (c : Dev nD) (O : CellTallies nD τ sig Unit) : sProp 𝕄 := iprop(∃ W, owes (c : Thread nD τ) O W)
/-- Device `c`'s staged rows of `x`. -/
def xPt (c : Dev nD) : sProp 𝕄 := ((c : Thread nD τ).loc cc0_stg0_0) ↦{fullShare} xBlk m c
/-- Device `c`'s weight, untouched. -/
def wPt (c : Dev nD) : sProp 𝕄 := ((c : Thread nD τ).loc main_arg1) ↦{fullShare} V m c main_arg1
/-- Device `c`'s buffer for column blocks of the weight. -/
def tPt (c : Dev nD) : sProp 𝕄 := iprop(∃ f : Buf (Elt F) ((c : Thread nD τ).loc cc0_scratch0), ((c : Thread nD τ).loc cc0_scratch0) ↦{fullShare} f)
/-- Device `c`'s result, the row blocks in `D` done. -/
def oPt (c : Dev nD) (D : List (Dev nD)) : sProp 𝕄 :=
  iprop(∃ f : Buf (Elt F) ((c : Thread nD τ).loc cc0_stg3_0),
    ⌜∀ s ∈ D, (oRows s).read (Elt F) f = rowsOf m c s⌝ ∗ ((c : Thread nD τ).loc cc0_stg3_0) ↦{fullShare} f)
/-- Device `c` running `p`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- Device `c` tells the device `d` places after it that it is ready, handing over that device's slot of its receive
    buffer. -/
theorem wp_ready (c n : Dev nD) (d : Fin 8) (hd : d ≠ 0) (hn : n = up c d.val) {j : ℤ} (hj : j = ((1 : ℕ) : ℤ))
    {α : Type} {Q : α → sProp 𝕄} {k : PUnit → Prog (TpuEff nD τ sig (Elt F) Λ₀ .tc) α} (O : CellTallies nD τ sig Unit) :
    iprop(records m K ∗ debt c (O + oweBar c d.val) ∗ dutyTok ER (barCell (up c d.val)) 0 c ∗ (∃ f, rPt c (up c d.val) f))
      ⊢ iprop((debt c O -∗ runs c (k ⟨⟩) Q)
          -∗ runs c (.op (.semSignal (Dev.tc n : Thread nD τ) ((SemArray.scalar (sig.barrier 0 rfl) : Sems sig S_).sem) j) k) Q) := by
  subst hn; subst hj
  unfold debt
  iintro ⟨#HK, ⟨%W, HO⟩, Htok, Hslot⟩ Hk
  ihave #Hr := (bar_record m K (up c d.val)) $$ HK
  icases Hr with ⟨#HI, #HR⟩
  iapply (Rounds.wp_signal 𝒱₀ ER (Rd m) (c : Thread nD τ) none (dst := (up c d.val : Thread nD τ)) (κ := K (up c d.val, .inl ()))
      (d := c) (by rw [duties_bar]; exact Finset.mem_erase.2 ⟨(up_ne c d hd).symm, Finset.mem_univ _⟩)
      (amount_bar m (up c d.val) c) () O rfl (W := W)) $$ [HO Htok Hslot]
  · isplitr; · iexact HI
    isplitl [HO]; · iexact HO
    isplitl [Htok]; · iexact Htok
    isplitl [Hslot]
    · rw [payload_bar]; unfold barPay; iexact Hslot
    · iexact HR
  iintro HO
  iapply Hk
  iexists W; iexact HO

/-- Device `c` meets the others at its barrier: each of them hands over its receive slot for `c`. -/
theorem wp_meet (c : Dev nD) {j : ℤ} (hj : j = ((7 : ℕ) : ℤ))
    {α : Type} {Q : α → sProp 𝕄} {k : PUnit → Prog (TpuEff nD τ sig (Elt F) Λ₀ .tc) α} (O : CellTallies nD τ sig Unit) (hO : Above 1 O) :
    iprop(records m K ∗ levAts L lv ∗ debt c O ∗ atPos ER (barCell c) 0 ∅ 0 ∗ cred (tallyAt (barCell c) () 7))
      ⊢ iprop(((debt c O ∗ atPos ER (barCell c) 1 ∅ 0 ∗ bigSep (Finset.univ.erase c) (fun p => barPay (F := F) c p)) -∗ runs c (k ⟨⟩) Q)
          -∗ runs c (.op (.semWait ((SemArray.scalar (sig.barrier 0 rfl) : Sems sig S_).sem) j) k) Q) := by
  subst hj
  unfold debt
  iintro ⟨#HK, #Hlev, ⟨%W, HO⟩, Hat, Hc⟩ Hk
  ihave #Hr := (bar_record m K c) $$ HK
  icases Hr with ⟨#HI, #HR⟩
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait_above c barS 1 (lv_bar c).le hO); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Fetching a column block of the weight -/

/-- What the weight's buffer reads after column block `j` lands in its half `b`. -/
theorem read_fetched (c : Dev nD) (j : Fin 8) (b : Fin 2) (f : Buf (Elt F) ((c : Thread nD τ).loc cc0_scratch0)) :
    (tSlot b).view.read (Elt F) ((tSq b).view.write (Elt F) f ((wCol j).view.read (Elt F) (V m c main_arg1)) Finset.univ) = wBlk m c j :=
  read_written_reshaped (tSlot b).view S4096x1024 squeezes_S1x4096x1024_S4096x1024.numel_eq f _

/-- Device `c` copies column block `j` of the weight into half `b` of its buffer and waits for it. -/
theorem wp_fetch (c : Dev nD) (j : Fin 8) (b : Fin 2)
    {src src' : Memref sig .tc .hbm S4096x1024 .fp8e5m2} (hs : src = wCol j) (hs' : src' = wCol j)
    {dst dst' : Memref sig .tc .vmem S4096x1024 .fp8e5m2} (hd : dst = tSq b) (hd' : dst' = tSq b)
    {hsrc : src.view.WordExact} {hdst : dst.view.WordExact} {hsem : DmaTarget.Typed (nD := nD) (τ := τ) (p := (Proc.tc : Proc τ)) .hbm (.dma loadS) (.here dst)}
    {hsrc' : src'.view.WordExact} {hdst' : dst'.view.WordExact}
    {α : Type} {Q : α → sProp 𝕄} {k : PUnit → Prog (TpuEff nD τ sig (Elt F) Λ₀ .tc) α} (O : CellTallies nD τ sig Unit) (hO : Above 1 O) :
    iprop(levAts L lv ∗ debt c O ∗ wPt m c ∗ tPt c ∗ semVal (loadCell c) 0)
      ⊢ iprop(((debt c O ∗ wPt m c ∗ (∃ f : Buf (Elt F) ((c : Thread nD τ).loc cc0_scratch0), ⌜(tSlot b).view.read (Elt F) f = wBlk m c j⌝
              ∗ ((c : Thread nD τ).loc cc0_scratch0) ↦{fullShare} f) ∗ semVal (loadCell c) 0) -∗ runs c (k ⟨⟩) Q)
          -∗ runs c (.op (.enqueueDma src (.here dst) (.dma loadS) hsrc hdst hsem)
              fun _ => .op (.waitDma2 loadS src' dst' hsrc' hdst') k) Q) := by
  subst hs hs' hd hd'
  unfold debt wPt tPt
  iintro ⟨#Hlev, ⟨%W, HO⟩, Hw, ⟨%f, Ht⟩, Hv⟩ Hk
  ihave Hw2 := (pointsTo_split_subset (ℓ := (c : Thread nD τ).loc main_arg1) (I := (wCol j).view.set) (S := Finset.univ) (Finset.subset_univ _)).1 $$ Hw
  icases Hw2 with ⟨Hcol, Hrest⟩
  iapply (Transfers.wp_dmaLocal EC 𝒱₀ (c : Thread nD τ) none (src := wCol j) (dst := tSq b) (Sd := Finset.univ) () (tSq b).view.dmaCredit
    rfl (View.dmaCredit_pos _ (by decide)) (Finset.subset_univ _)) $$ [Hcol Ht Hv]
  · isplitl [Hcol]; · iexact Hcol
    isplitl [Ht]; · iexact Ht
    iexact Hv
  iintro HF
  iapply (Transfers.wp_waitLocalO EC 𝒱₀ (c : Thread nD τ) none () rfl) $$ [HF HO]
  · isplitl [HF]; · iexact HF
    isplitl [HO]; · iexact HO
    iapply (mayWait_above c (.dma loadS) 0 (lv_load c).le (hO.mono (by decide))); iexact Hlev
  iintro ⟨⟨Ht, Hcol⟩, Hv, HO⟩
  ihave Hw := (pointsTo_split_subset (ℓ := (c : Thread nD τ).loc main_arg1) (I := (wCol j).view.set) (S := Finset.univ) (Finset.subset_univ _)).2 $$ [Hcol Hrest]
  · isplitl [Hcol] <;> iassumption
  iapply Hk
  isplitl [HO]; · iexists _; iexact HO
  isplitl [Hw]; · iexact Hw
  isplitl [Ht]
  · iexists _
    isplitr
    · ipureintro; exact read_fetched m c j b f
    iexact Ht
  iexact Hv

/-- Zero offsets, written out. -/
theorem zeros2 : (![0, 0] : Fin 2 → Nat) = fun _ => 0 := by funext a; fin_cases a <;> rfl

/-- Device `c` fetches column block `j` of the weight and loads its rows of `x` and that block. -/
theorem wp_weight (c : Dev nD) (j : Fin 8) (b : Fin 2)
    {src src' : Memref sig .tc .hbm S4096x1024 .fp8e5m2} (hs : src = wCol j) (hs' : src' = wCol j)
    {dst dst' : Memref sig .tc .vmem S4096x1024 .fp8e5m2} (hd : dst = tSq b) (hd' : dst' = tSq b)
    {hsrc : src.view.WordExact} {hdst : dst.view.WordExact}
    {hsem : DmaTarget.Typed (nD := nD) (τ := τ) (p := (Proc.tc : Proc τ)) .hbm (.dma loadS) (.here dst)}
    {hsrc' : src'.view.WordExact} {hdst' : dst'.view.WordExact}
    {hx : ∀ a, (![0, 0] : Fin 2 → Nat) a + S512x4096.size a ≤ S512x4096.size a}
    {hlx : (xM : Memref sig .tc .vmem S512x4096 .fp8e4m3).view.LoadsAt (Rect.unit (s := S512x4096) ![0, 0] S512x4096.size hx).toLoadRect}
    {o : Fin 3 → Nat} (ho : o = ![b.val, 0, 0]) {hh : ∀ a, o a + S1x4096x1024.size a ≤ S2x4096x1024.size a}
    {hlt : (tM : Memref sig .tc .vmem S2x4096x1024 .fp8e5m2).view.LoadsAt (Rect.unit (s := S2x4096x1024) o S1x4096x1024.size hh).toLoadRect}
    {α : Type} {Q : α → sProp 𝕄} {k : Vec F S512x4096 .fp8e4m3 → Vec F S1x4096x1024 .fp8e5m2 → Prog (TpuEff nD τ sig (Elt F) Λ₀ .tc) α}
    (O : CellTallies nD τ sig Unit) (hO : Above 1 O) :
    iprop(levAts L lv ∗ debt c O ∗ wPt m c ∗ tPt c ∗ semVal (loadCell c) 0 ∗ xPt m c)
      ⊢ iprop(((debt c O ∗ wPt m c ∗ tPt c ∗ semVal (loadCell c) 0 ∗ xPt m c) -∗ runs c (k (xBlk m c) (wBlk m c j)) Q)
          -∗ runs c (.op (.enqueueDma src (.here dst) (.dma loadS) hsrc hdst hsem)
              fun _ => .op (.waitDma2 loadS src' dst' hsrc' hdst')
              fun _ => .op (.load xM (Rect.unit (s := S512x4096) ![0, 0] S512x4096.size hx).toLoadRect hlx)
              fun vx => .op (.load tM (Rect.unit (s := S2x4096x1024) o S1x4096x1024.size hh).toLoadRect hlt)
              fun vw => k vx vw) Q) := by
  subst ho
  iintro ⟨#Hlev, HO, Hw, Ht, Hv, Hx⟩ Hk
  iapply (wp_fetch m c j b hs hs' hd hd' O hO) $$ [HO Hw Ht Hv]
  · isplitr; · iexact Hlev
    isplitl [HO]; · iexact HO
    isplitl [Hw]; · iexact Hw
    isplitl [Ht]; · iexact Ht
    iexact Hv
  iintro ⟨HO, Hw, ⟨%f, %hf, Ht⟩, Hv⟩
  unfold xPt
  iapply (wp_load 𝒱₀ (c : Thread nD τ) none Set.univ (m := xM) (Finset.subset_univ _)) $$ Hx; iintro Hx
  rw [show ∀ g, (xM : Memref sig .tc .vmem S512x4096 .fp8e4m3).view.readAt (Elt F) (Rect.unit (s := S512x4096) ![0, 0] S512x4096.size hx).toLoadRect g = g
    from fun g => Memref.readAt_unit_zero (Elt F) cc0_stg0_0 zeros2 _ g]
  iapply (wp_load 𝒱₀ (c : Thread nD τ) none Set.univ (m := tM) (Finset.subset_univ _)) $$ Ht; iintro Ht
  rw [show (tM : Memref sig .tc .vmem S2x4096x1024 .fp8e5m2).view.readAt (Elt F) (Rect.unit (s := S2x4096x1024) ![b.val, 0, 0] S1x4096x1024.size hh).toLoadRect f = wBlk m c j
    from hf]
  iapply Hk
  isplitl [HO]; · iexact HO
  isplitl [Hw]; · iexact Hw
  isplitl [Ht]; · unfold tPt; iexists f; iexact Ht
  isplitl [Hv]; · iexact Hv
  iexact Hx

/-! ## Filling a row block of the result -/

/-- Device `c` stores row block `s` of its result, having loaded (and dropped) what was there. -/
theorem wp_rows (c s : Dev nD) (D : List (Dev nD)) {o : Fin 2 → Nat} (ho : o = ![512 * s.val, 0])
    {hr : ∀ a, o a + S512x1024.size a ≤ S4096x1024.size a} {w : Vec F S512x1024 .f32} (hw : w = rowsOf m c s)
    {hl : (oM : Memref sig .tc .vmem S4096x1024 .f32).view.LoadsAt (Rect.unit (s := S4096x1024) o S512x1024.size hr).toLoadRect}
    {hst : ((oM : Memref sig .tc .vmem S4096x1024 .f32).access (Rect.unit (s := S4096x1024) o S512x1024.size hr)).Stores Finset.univ}
    {hm : (Finset.univ : Finset S512x1024.Idx) = Finset.univ ∨ ∀ a, (Rect.unit (s := S4096x1024) o S512x1024.size hr).stride a = 1}
    {α : Type} {Q : α → sProp 𝕄} {k : PUnit → Prog (TpuEff nD τ sig (Elt F) Λ₀ .tc) α} :
    oPt m c D
      ⊢ iprop((oPt m c (s :: D) -∗ runs c (k ⟨⟩) Q)
          -∗ runs c (.op (.load oM (Rect.unit (s := S4096x1024) o S512x1024.size hr).toLoadRect hl)
              fun _ => .op (.store oM (Rect.unit (s := S4096x1024) o S512x1024.size hr) w Finset.univ hst hm) k) Q) := by
  subst ho hw
  unfold oPt
  iintro ⟨%f, %hf, Ho⟩ Hk
  iapply (wp_load 𝒱₀ (c : Thread nD τ) none Set.univ (m := oM) (Finset.subset_univ _)) $$ Ho; iintro Ho
  iapply (wp_store 𝒱₀ (c : Thread nD τ) none Set.univ (m := oM) (r := Rect.unit (s := S4096x1024) ![512 * s.val, 0] S512x1024.size hr)
    (S := Finset.univ) (Finset.subset_univ _)) $$ Ho; iintro Ho
  iapply Hk
  iexists _
  isplitr
  · ipureintro
    intro u hu
    show (oRows u).read (Elt F) ((oRows s).write (Elt F) f (rowsOf m c s) Finset.univ) = rowsOf m c u
    by_cases e : u = s
    · subst e; exact View.read_write_univ _ _
    · rw [rows_write_other e]
      exact hf u ((List.mem_cons.1 hu).resolve_left e)
  iexact Ho

/-! ## Sending a tile -/

/-- Every tile is worth the same credit. -/
theorem tile_credit (M : Memref sig .tc .vmem S512x1024 .bf16) : M.view.dmaCredit = N := rfl

/-- A send slot's view reads what was last stored through it. -/
theorem read_stored (t : Fin 8) (f : (cc0_scratch1 : Ref sig .tc).ty.Contents (Elt F)) (w : Vec F S1x512x1024 .bf16) :
    (sSlot t).view.read (Elt F) ((sSlot t).view.write (Elt F) f w Finset.univ) = w := View.read_write_univ _ _

/-- What lands in a receive slot is what the send slot reads. -/
theorem read_landed (t s : Fin 8) (f : (cc0_scratch1 : Ref sig .tc).ty.Contents (Elt F)) (g : (cc0_scratch2 : Ref sig .tc).ty.Contents (Elt F)) :
    (rSlot s).view.read (Elt F) ((rSq s).view.write (Elt F) g ((sSq t).view.read (Elt F) f) Finset.univ)
      = (sSlot t).view.read (Elt F) f := by
  have e : (rSlot s).view.read (Elt F) ((rSq s).view.write (Elt F) g ((sSq t).view.read (Elt F) f) Finset.univ)
      = fun x => (sSq t).view.read (Elt F) f ((Shape.reshapeEquiv squeezes_S1x512x1024_S512x1024.numel_eq).symm x) :=
    read_written_reshaped (rSlot s).view S512x1024 squeezes_S1x512x1024_S512x1024.numel_eq g _
  rw [e]
  funext x
  show (sSlot t).view.read (Elt F) f (Shape.reshapeEquiv squeezes_S1x512x1024_S512x1024.numel_eq ((Shape.reshapeEquiv squeezes_S1x512x1024_S512x1024.numel_eq).symm x)) = _
  rw [Equiv.apply_symm_apply]

/-- The transfer of send slot `t` of device `c` to receive slot `c` of the device `t` places after it. -/
theorem wp_transfer (c n : Dev nD) (t : Fin 8) (ht : t ≠ 0) (hn : n = up c t.val)
    {src : Memref sig .tc .vmem S512x1024 .bf16} (hs : src = sSq t)
    {dst : Memref sig (Dev.tc n : Thread nD τ).2.kind .vmem S512x1024 .bf16} (hd : dst = rSq c)
    {sS rS : DmaSem sig} (hsS : sS = sendS t) (hrS : rS = recvS c)
    {hsc : dst.view.ref.isScScratch = false}
    {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (f : Buf (Elt F) ((c : Thread nD τ).loc cc0_scratch1)) (hf : (sSlot t).view.read (Elt F) f = tile m c (up c t.val))
    (g : Buf (Elt F) ((up c t.val : Thread nD τ).loc cc0_scratch2)) (O : CellTallies nD τ sig Unit) (W : Waits sig Unit) :
    iprop(cellInv ER (Rd m) (K (c, .inr (.inl t))) (sendCell c t) ∗ cellInv ER (Rd m) (K (up c t.val, .inr (.inr c))) (recvCell (up c t.val) c)
        ∗ sPt c t f ∗ rPt (up c t.val) c g
        ∗ owes (c : Thread nD τ) (O + oweTile c t.val) W
        ∗ dutyTok ER (sendCell c t) 0 0 ∗ reached ER (sendCell c t) 0
        ∗ dutyTok ER (recvCell (up c t.val) c) 0 0 ∗ reached ER (recvCell (up c t.val) c) 0)
      ⊢ iprop(((cred (tallyAt (sendCell c t) () N) ∗ owes (c : Thread nD τ) O W) -∗ runs c (k ⟨⟩) Q)
          -∗ runs c (.op (.enqueueDma src (.remote (Dev.tc n : Thread nD τ) dst (.dma sS) hsc) (.dma rS) hsrc hdst hsem) k) Q) := by
  subst hn hs hd hsS hrS
  have h := Rounds.wp_send_pointsTo (defs := defs₀ (F := F)) (src := sSq t) (dst := rSq c) (hsc := hsc) (hsrc := hsrc) (hdst := hdst) (hsem := hsem) (k := k) (Q := Q)
    (q := fullShare) (fs := f) (c' := (up c t.val : Thread nD τ)) (sS := .dma (sendS t)) (sem := .dma (recvS c))
    (Γ := []) (Es := Set.univ)
    𝒱₀ ER (Rd m) (c : Thread nD τ) none (κ₁ := K (c, .inr (.inl t))) (κ₂ := K (up c t.val, .inr (.inr c)))
    (r₁ := 0) (r₂ := 0) (d₁ := 0) (d₂ := 0) (fd := g)
    (by rw [duties_send m c ht]; exact Finset.mem_singleton_self _)
    (by rw [duties_recv m (up c t.val) (up_ne c t ht).symm]; exact Finset.mem_singleton_self _)
    () () N rfl (amount_send m c t 0) (amount_recv m (up c t.val) c 0) O rfl (W := W)
    (by
      rw [payload_send]; unfold sendPay sPt; rw [← sSq_set t]
      iintro H; iexists f; iexact H)
    (by
      rw [payload_recv]; unfold recvPay rPt; rw [← rSq_set c]
      iintro H; iexists _; isplitr
      · ipureintro; exact (read_landed t c f g).trans hf
      iexact H)
  rw [sSq_set, rSq_set] at h
  exact h

/-- Device `c` puts the tile it makes for the device `t` places after it into send slot `t`, sends it, and waits until it
    has left. -/
theorem wp_send (c n : Dev nD) (t : Fin 8) (ht : t ≠ 0) (hn : n = up c t.val)
    {o : Fin 3 → Nat} (ho : o = ![t.val, 0, 0]) {hh : ∀ a, o a + S1x512x1024.size a ≤ S8x512x1024.size a}
    {w : Vec F S1x512x1024 .bf16} (hw : w = tile m c (up c t.val))
    {hl : (sM : Memref sig .tc .vmem S8x512x1024 .bf16).view.LoadsAt (Rect.unit (s := S8x512x1024) o S1x512x1024.size hh).toLoadRect}
    {hst : ((sM : Memref sig .tc .vmem S8x512x1024 .bf16).access (Rect.unit (s := S8x512x1024) o S1x512x1024.size hh)).Stores Finset.univ}
    {hm : (Finset.univ : Finset S1x512x1024.Idx) = Finset.univ ∨ ∀ a, (Rect.unit (s := S8x512x1024) o S1x512x1024.size hh).stride a = 1}
    {src : Memref sig .tc .vmem S512x1024 .bf16} (hs : src = sSq t)
    {dst : Memref sig (Dev.tc n : Thread nD τ).2.kind .vmem S512x1024 .bf16} (hd : dst = rSq c)
    {sS rS sS' : DmaSem sig} (hsS : sS = sendS t) (hrS : rS = recvS c) (hsS' : sS' = sendS t)
    {hsc : dst.view.ref.isScScratch = false}
    {hsrc : src.view.WordExact} {hdst : dst.view.WordExact}
    {hsem : DmaTarget.Typed .vmem (.dma rS) (.remote (Dev.tc n : Thread nD τ) dst (.dma sS) hsc)}
    {srcw dstw : Memref sig .tc .vmem S512x1024 .bf16}
    {hsrcw : srcw.view.WordExact} {hdstw : dstw.view.WordExact}
    {α : Type} {Q : α → sProp 𝕄} {k : PUnit → Prog (TpuEff nD τ sig (Elt F) Λ₀ .tc) α}
    (O : CellTallies nD τ sig Unit) (hO : Above 1 O) :
    iprop(records m K ∗ levAts L lv ∗ debt c (O + oweTile c t.val) ∗ sendPay c t ∗ barPay c (up c t.val)
        ∗ dutyTok ER (sendCell c t) 0 0 ∗ dutyTok ER (recvCell (up c t.val) c) 0 0 ∗ atPos ER (sendCell c t) 0 ∅ 0)
      ⊢ iprop(((debt c O ∗ sendPay c t ∗ atPos ER (sendCell c t) 1 ∅ 0) -∗ runs c (k ⟨⟩) Q)
          -∗ runs c (.op (.load sM (Rect.unit (s := S8x512x1024) o S1x512x1024.size hh).toLoadRect hl)
              fun _ => .op (.store sM (Rect.unit (s := S8x512x1024) o S1x512x1024.size hh) w Finset.univ hst hm)
              fun _ => .op (.enqueueDma src (.remote (Dev.tc n : Thread nD τ) dst (.dma sS) hsc) (.dma rS) hsrc hdst hsem)
              fun _ => .op (.waitDma2 sS' srcw dstw hsrcw hdstw) k) Q) := by
  subst ho hw hsS'
  unfold debt sendPay barPay
  iintro ⟨#HK, #Hlev, ⟨%W, HO⟩, ⟨%f, Hs⟩, ⟨%g, Hr⟩, HtS, HtR, Hat⟩ Hk
  ihave #HS := (send_record m K c t) $$ HK
  icases HS with ⟨#HIs, #HRs⟩
  ihave #HR := (recv_record m K (up c t.val) c) $$ HK
  icases HR with ⟨#HIr, #HRr⟩
  unfold sPt
  have hin : ((sM : Memref sig .tc .vmem S8x512x1024 .bf16).access (slotR t)).setOn Finset.univ ⊆ slotSet t :=
    (View.set_slice_whole cc0_scratch1 (slotR t)).subset
  have hin' : (sM : Memref sig .tc .vmem S8x512x1024 .bf16).view.setOn (slotR t).toLoadRect.set ⊆ slotSet t := by
    rw [whole_setOn]
  iapply (wp_load 𝒱₀ (c : Thread nD τ) none Set.univ (m := sM) (S := slotSet t) hin') $$ Hs; iintro Hs
  iapply (wp_store 𝒱₀ (c : Thread nD τ) none Set.univ (m := sM) (r := slotR t) (S := slotSet t) hin) $$ Hs; iintro Hs
  iapply (wp_transfer m K c n t ht hn hs hd hsS hrS
    ((sSlot t).view.write (Elt F) f (tile m c (up c t.val)) Finset.univ) (read_stored t f _) g O W) $$ [HO Hs Hr HtS HtR]
  · isplitr; · iexact HIs
    isplitr; · iexact HIr
    isplitl [Hs]; · unfold sPt; iexact Hs
    isplitl [Hr]; · iexact Hr
    isplitl [HO]; · iexact HO
    isplitl [HtS]; · iexact HtS
    isplitr; · iexact HRs
    isplitl [HtR]; · iexact HtR
    iexact HRr
  iintro ⟨Hc, HO⟩
  iapply (Rounds.wp_wait_rest_token 𝒱₀ ER (Rd m) (c : Thread nD τ) none (κ := K (c, .inr (.inl t)))
      (wpE_waitDma2_eq 𝒱₀ (c : Thread nD τ) none Set.univ) (Set.mem_univ _) () (O := O) (W := W) (R := 0) (m := 0) (T := ∅)
      (by rw [Nat.zero_add, expect_send m c ht, tile_credit])) $$ [Hc HO Hat]
  · isplitr; · iexact HIs
    isplitl [Hc]; · rw [tile_credit]; iexact Hc
    isplitl [HO]; · iexact HO
    isplitr; · iapply (mayWait_above c (.dma (sendS t)) 0 (lv_send c t).le (hO.mono (by decide))); iexact Hlev
    iexact Hat
  iintro ⟨HO, Hat, -, Hpay⟩
  ihave Hp := (Entails.of_eq (rest_send m c ht)) $$ Hpay
  iapply Hk
  isplitl [HO]; · iexists _; iexact HO
  isplitl [Hp]; · unfold sendPay sPt; iexact Hp
  iexact Hat

/-! ## Taking a tile -/

/-- Device `c` waits for the tile of device `s ≠ c` and stores it, widened, as row block `s` of its result. -/
theorem wp_take (c s : Dev nD) (hsc : s ≠ c) (D : List (Dev nD))
    {rS : DmaSem sig} (hrS : rS = recvS s)
    {srcw dstw : Memref sig .tc .vmem S512x1024 .bf16}
    {hsrcw : srcw.view.WordExact} {hdstw : dstw.view.WordExact}
    {o : Fin 3 → Nat} (ho : o = ![s.val, 0, 0]) {hh : ∀ a, o a + S1x512x1024.size a ≤ S8x512x1024.size a}
    {hl : (rM : Memref sig .tc .vmem S8x512x1024 .bf16).view.LoadsAt (Rect.unit (s := S8x512x1024) o S1x512x1024.size hh).toLoadRect}
    {o' : Fin 2 → Nat} (ho' : o' = ![512 * s.val, 0])
    {hr : ∀ a, o' a + S512x1024.size a ≤ S4096x1024.size a}
    {pay : Vec F S1x512x1024 .bf16 → Vec F S512x1024 .f32} (hpay : ∀ v, pay v = k0_pay1 v)
    {hl' : (oM : Memref sig .tc .vmem S4096x1024 .f32).view.LoadsAt (Rect.unit (s := S4096x1024) o' S512x1024.size hr).toLoadRect}
    {hst : ((oM : Memref sig .tc .vmem S4096x1024 .f32).access (Rect.unit (s := S4096x1024) o' S512x1024.size hr)).Stores Finset.univ}
    {hm : (Finset.univ : Finset S512x1024.Idx) = Finset.univ ∨ ∀ a, (Rect.unit (s := S4096x1024) o' S512x1024.size hr).stride a = 1}
    {α : Type} {Q : α → sProp 𝕄} {k : PUnit → Prog (TpuEff nD τ sig (Elt F) Λ₀ .tc) α} :
    iprop(records m K ∗ debt c 0 ∗ cred (tallyAt (recvCell c s) () N) ∗ atPos ER (recvCell c s) 0 ∅ 0 ∗ oPt m c D)
      ⊢ iprop(((debt c 0 ∗ (∃ f, rPt c s f) ∗ atPos ER (recvCell c s) 1 ∅ 0 ∗ oPt m c (s :: D)) -∗ runs c (k ⟨⟩) Q)
          -∗ runs c (.op (.waitDma2 rS srcw dstw hsrcw hdstw)
              fun _ => .op (.load rM (Rect.unit (s := S8x512x1024) o S1x512x1024.size hh).toLoadRect hl)
              fun v => .op (.load oM (Rect.unit (s := S4096x1024) o' S512x1024.size hr).toLoadRect hl')
              fun _ => .op (.store oM (Rect.unit (s := S4096x1024) o' S512x1024.size hr) (pay v) Finset.univ hst hm) k) Q) := by
  subst hrS ho
  unfold debt
  iintro ⟨#HK, ⟨%W, HO⟩, Hc, Hat, Ho⟩ Hk
  ihave #HR := (recv_record m K c s) $$ HK
  icases HR with ⟨#HIr, #HRr⟩
  iapply (Rounds.wp_wait_rest_token 𝒱₀ ER (Rd m) (c : Thread nD τ) none (κ := K (c, .inr (.inr s)))
      (wpE_waitDma2_eq 𝒱₀ (c : Thread nD τ) none Set.univ) (Set.mem_univ _) () (O := 0) (W := W) (R := 0) (m := 0) (T := ∅)
      (by rw [Nat.zero_add, expect_recv m c hsc, tile_credit])) $$ [Hc HO Hat]
  · isplitr; · iexact HIr
    isplitl [Hc]; · rw [tile_credit]; iexact Hc
    isplitl [HO]; · iexact HO
    isplitr; · rw [MayWait_zero]; iempintro
    iexact Hat
  iintro ⟨HO, Hat, -, Hpay⟩
  ihave Hp := (Entails.of_eq (rest_recv m c hsc)) $$ Hpay
  unfold recvPay
  icases Hp with ⟨%f, %hf, Hr⟩
  unfold rPt
  have hin : (rM : Memref sig .tc .vmem S8x512x1024 .bf16).view.setOn (slotR s).toLoadRect.set ⊆ slotSet s := by
    rw [whole_setOn]
  iapply (wp_load 𝒱₀ (c : Thread nD τ) none Set.univ (m := rM) (S := slotSet s) hin) $$ Hr; iintro Hr
  iapply (wp_rows m c s D (k := k) ho' (by
    rw [show (rM : Memref sig .tc .vmem S8x512x1024 .bf16).view.readAt (Elt F) (Rect.unit (s := S8x512x1024) ![s.val, 0, 0] S1x512x1024.size hh).toLoadRect f
      = tile m s c from hf, hpay, rowsOf_other m hsc])) $$ Ho
  iintro Ho
  iapply Hk
  isplitl [HO]; · iexists _; iexact HO
  isplitl [Hr]; · iexists f; iexact Hr
  isplitl [Hat]; · iexact Hat
  iexact Ho

end Cert.KernelIdeal.Exchange

end
-- ==== Proof.Pieces.lean ====
/-
# What the body names, and what it starts and ends with

The offsets and slices of the body by device, loading the scales, closing the cells, cutting the two communication
buffers into slots, and the state of a device before and after the body.
-/
module

public import proofs.«01_k».proof.Proof.Steps
public import Idealize.ShloMosaic.Lib.Ring

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Offsets, slices and payloads as the body names them -/

theorem off2_at : ∀ c : Dev nD, k0_off2 c = ![512 * c.val, 0] := by decide +kernel
theorem off3_at : ∀ c : Dev nD, k0_off3 c = ![c.val] := by decide +kernel
theorem off4_at : ∀ c : Dev nD, k0_off4 c = ![c.val, 0, 0] := by decide +kernel
theorem off1_own (c : Dev nD) : k0_off1 c 0#32 = ![0, 1024 * c.val] :=
  (off1_at c 0).trans (by show ![0, 1024 * (up c 0).val] = _; rw [up_zero])

theorem col_slice {o : Fin 2 → Nat} (j : Fin 8) (ho : o = ![0, 1024 * j.val]) (h : ∀ a, o a + S4096x1024.size a ≤ S4096x8192.size a)
    (p : ∀ a, (Rect.unit (s := S4096x8192) o S4096x1024.size h).stride a = 1) :
    (wM : Memref sig .tc .hbm S4096x8192 .fp8e5m2).slice (Rect.unit (s := S4096x8192) o S4096x1024.size h) p = wCol j := by subst ho; rfl
theorem recv_slice {o : Fin 3 → Nat} (s : Fin 8) (ho : o = ![s.val, 0, 0]) (h : ∀ a, o a + S1x512x1024.size a ≤ S8x512x1024.size a)
    (p : ∀ a, (Rect.unit (s := S8x512x1024) o S1x512x1024.size h).stride a = 1) :
    ((rM : Memref sig .tc .vmem S8x512x1024 .bf16).slice (Rect.unit (s := S8x512x1024) o S1x512x1024.size h) p).squeeze S512x1024 squeezes_S1x512x1024_S512x1024 = rSq s := by
  subst ho; rfl

section Pay
variable (a : F .f32) (x : Vec F S512x4096 .fp8e4m3) (w : Vec F S1x4096x1024 .fp8e5m2) (v : Vec F S1x512x1024 .bf16)
theorem sent1 : k0_pay5 (k0_pay4 a x w) = k0_pay6 a x w := rfl
theorem sent3 : k0_pay9 (k0_pay7 x w) (k0_pay8 a) = k0_pay6 a x w := rfl
theorem sent4 : k0_pay10 a x w = k0_pay6 a x w := rfl
theorem sent5 : k0_pay12 a (k0_pay11 x) w = k0_pay6 a x w := rfl
theorem sent6 : k0_pay13 a x w = k0_pay6 a x w := rfl
theorem sent7 : k0_pay14 a x w = k0_pay6 a x w := rfl
end Pay

/-! ## The scales -/

theorem one_index : ∀ x y : S1.Idx, x = y := fun x y => by
  funext a; fin_cases a
  exact Fin.ext (by have h1 : (x 0).val < 1 := (x 0).isLt; have h2 : (y 0).val < 1 := (y 0).isLt; show (x 0).val = (y 0).val; omega)

/-- Loading the first scale. -/
theorem wp_scaleX (c : Dev nD) {hr : ∀ a, (![0] : Fin 1 → Nat) a + S1.size a ≤ S1.size a}
    {hl : (sxM : Memref sig .tc .smem S1 .f32).view.LoadsAt (Rect.unit (s := S1) ![0] S1.size hr).toLoadRect}
    {α : Type} {Q : α → sProp 𝕄} {k : (S1.Idx → Elt F .f32) → Prog (TpuEff nD τ sig (Elt F) Λ₀ .tc) α} :
    iprop(((c : Thread nD τ).loc cc0_stg1_0) ↦{fullShare} (iblk m c 1 t0_0 : S1.Idx → Elt F .f32))
      ⊢ iprop(((((c : Thread nD τ).loc cc0_stg1_0) ↦{fullShare} (iblk m c 1 t0_0 : S1.Idx → Elt F .f32)) -∗ runs c (k fun _ => scaleX m c) Q)
          -∗ runs c (.op (.load sxM (Rect.unit (s := S1) ![0] S1.size hr).toLoadRect hl) k) Q) := by
  iintro H Hk
  iapply (wp_load 𝒱₀ (c : Thread nD τ) none Set.univ (m := sxM) (Finset.subset_univ _)) $$ H; iintro H
  rw [show (sxM : Memref sig .tc .smem S1 .f32).view.readAt (Elt F) (Rect.unit (s := S1) ![0] S1.size hr).toLoadRect (iblk m c 1 t0_0 : S1.Idx → Elt F .f32)
    = fun _ => scaleX m c from funext fun x => congrArg (iblk m c 1 t0_0 : S1.Idx → Elt F .f32) (one_index _ _)]
  iapply Hk; iexact H

/-- Loading the second scale. -/
theorem wp_scaleW (c : Dev nD) {hr : ∀ a, (![0] : Fin 1 → Nat) a + S1.size a ≤ S1.size a}
    {hl : (swM : Memref sig .tc .smem S1 .f32).view.LoadsAt (Rect.unit (s := S1) ![0] S1.size hr).toLoadRect}
    {α : Type} {Q : α → sProp 𝕄} {k : (S1.Idx → Elt F .f32) → Prog (TpuEff nD τ sig (Elt F) Λ₀ .tc) α} :
    iprop(((c : Thread nD τ).loc cc0_stg2_0) ↦{fullShare} (iblk m c 2 t0_0 : S1.Idx → Elt F .f32))
      ⊢ iprop(((((c : Thread nD τ).loc cc0_stg2_0) ↦{fullShare} (iblk m c 2 t0_0 : S1.Idx → Elt F .f32)) -∗ runs c (k fun _ => scaleW m c) Q)
          -∗ runs c (.op (.load swM (Rect.unit (s := S1) ![0] S1.size hr).toLoadRect hl) k) Q) := by
  iintro H Hk
  iapply (wp_load 𝒱₀ (c : Thread nD τ) none Set.univ (m := swM) (Finset.subset_univ _)) $$ H; iintro H
  rw [show (swM : Memref sig .tc .smem S1 .f32).view.readAt (Elt F) (Rect.unit (s := S1) ![0] S1.size hr).toLoadRect (iblk m c 2 t0_0 : S1.Idx → Elt F .f32)
    = fun _ => scaleW m c from funext fun x => congrArg (iblk m c 2 t0_0 : S1.Idx → Elt F .f32) (one_index _ _)]
  iapply Hk; iexact H

/-! ## Closing the cells -/

theorem close_bar (c : Dev nD) : iprop(records m K ∗ atPos ER (barCell c) 1 ∅ 0) ⊢ iprop(|={Set.univ}=> semVal (barCell c) 0 : sProp 𝕄) := by
  iintro ⟨#HK, Hat⟩
  ihave #H := (bar_record m K c) $$ HK
  icases H with ⟨#HI, #HR⟩
  iapply (Rounds.cell_close ER (Rd m) (Set.mem_univ (K (c, .inl ()))) (fun h => h) (R := 1) (duties_later m (barCell c)))
  isplitr; · iexact HI
  iexact Hat
theorem close_send (c : Dev nD) (t : Fin 8) (r : ℕ) (h : ∀ r', r ≤ r' → (Rd (F := F) m).duties (sendCell c t) r' = ∅) :
    iprop(records m K ∗ atPos ER (sendCell c t) r ∅ 0) ⊢ iprop(|={Set.univ}=> semVal (sendCell c t) 0 : sProp 𝕄) := by
  iintro ⟨#HK, Hat⟩
  ihave #H := (send_record m K c t) $$ HK
  icases H with ⟨#HI, #HR⟩
  iapply (Rounds.cell_close ER (Rd m) (Set.mem_univ (K (c, .inr (.inl t)))) (fun h => h) (R := r) h)
  isplitr; · iexact HI
  iexact Hat
theorem close_recv (c : Dev nD) (s : Fin 8) (r : ℕ) (h : ∀ r', r ≤ r' → (Rd (F := F) m).duties (recvCell c s) r' = ∅) :
    iprop(records m K ∗ atPos ER (recvCell c s) r ∅ 0) ⊢ iprop(|={Set.univ}=> semVal (recvCell c s) 0 : sProp 𝕄) := by
  iintro ⟨#HK, Hat⟩
  ihave #H := (recv_record m K c s) $$ HK
  icases H with ⟨#HI, #HR⟩
  iapply (Rounds.cell_close ER (Rd m) (Set.mem_univ (K (c, .inr (.inr s)))) (fun h => h) (R := r) h)
  isplitr; · iexact HI
  iexact Hat

/-! ## The slots of the two communication buffers -/

theorem send_slots (c : Dev nD) (f : Buf (Elt F) ((c : Thread nD τ).loc cc0_scratch1)) :
    (((c : Thread nD τ).loc cc0_scratch1) ↦{fullShare} f : sProp 𝕄) ⊢ bigSep Finset.univ fun t => sendPay c t := by
  rw [Ring.pointsTo_blocks (ℓ := (c : Thread nD τ).loc cc0_scratch1) slotSet slots_disjoint slots_cover f]
  have h : ∀ t, (((c : Thread nD τ).loc cc0_scratch1) ↦[slotSet t]{fullShare} f : sProp 𝕄) ⊢ sendPay c t := fun t => by
    unfold sendPay sPt
    iintro H; iexists f; iexact H
  exact BI.bigSep_mono fun t _ => h t
theorem send_whole (c : Dev nD) (f₀ : Buf (Elt F) ((c : Thread nD τ).loc cc0_scratch1)) :
    bigSep Finset.univ (fun t => sendPay c t) ⊢ iprop(∃ f : Buf (Elt F) ((c : Thread nD τ).loc cc0_scratch1), ((c : Thread nD τ).loc cc0_scratch1) ↦{fullShare} f : sProp 𝕄) :=
  Ring.pointsTo_blocks_join_exists (ℓ := (c : Thread nD τ).loc cc0_scratch1) slotSet slots_disjoint slots_cover f₀
theorem recv_slots (c : Dev nD) (f : Buf (Elt F) ((c : Thread nD τ).loc cc0_scratch2)) :
    (((c : Thread nD τ).loc cc0_scratch2) ↦{fullShare} f : sProp 𝕄) ⊢ bigSep Finset.univ fun s => iprop(∃ f, rPt c s f) := by
  rw [Ring.pointsTo_blocks (ℓ := (c : Thread nD τ).loc cc0_scratch2) slotSet slots_disjoint slots_cover f]
  have h : ∀ t, (((c : Thread nD τ).loc cc0_scratch2) ↦[slotSet t]{fullShare} f : sProp 𝕄) ⊢ iprop(∃ f, rPt c t f) := fun t => by
    unfold rPt
    iintro H; iexists f; iexact H
  exact BI.bigSep_mono fun t _ => h t
theorem recv_whole (c : Dev nD) (f₀ : Buf (Elt F) ((c : Thread nD τ).loc cc0_scratch2)) :
    bigSep Finset.univ (fun s => iprop(∃ f, rPt c s f)) ⊢ iprop(∃ f : Buf (Elt F) ((c : Thread nD τ).loc cc0_scratch2), ((c : Thread nD τ).loc cc0_scratch2) ↦{fullShare} f : sProp 𝕄) :=
  Ring.pointsTo_blocks_join_exists (ℓ := (c : Thread nD τ).loc cc0_scratch2) slotSet slots_disjoint slots_cover f₀

/-! ## What a device starts with and ends with -/

/-- The duties device `c` is to do, its places in the rounds and the credits it will wait for. -/
def ghost (c : Dev nD) : sProp 𝕄 :=
  iprop(bigSep Finset.univ (fun q => dutyTok ER (barCell q) 0 c)
    ∗ bigSep Finset.univ (fun t => dutyTok ER (sendCell c t) 0 0)
    ∗ bigSep Finset.univ (fun q => dutyTok ER (recvCell q c) 0 0)
    ∗ atPos ER (barCell c) 0 ∅ 0 ∗ bigSep Finset.univ (fun t => atPos ER (sendCell c t) 0 ∅ 0)
    ∗ bigSep Finset.univ (fun s => atPos ER (recvCell c s) 0 ∅ 0))
/-- The credits device `c` will wait for. -/
def credits (c : Dev nD) : sProp 𝕄 :=
  iprop(cred (tallyAt (barCell c) () 7) ∗ bigSep (Finset.univ.erase c) (fun s => cred (tallyAt (recvCell c s) () N)))
/-- The kernel's own buffers on device `c`, whatever they hold. -/
def scratch (c : Dev nD) : sProp 𝕄 :=
  iprop(tPt c ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- The scales as staged. -/
def scales (c : Dev nD) : sProp 𝕄 :=
  iprop((((c : Thread nD τ).loc cc0_stg1_0) ↦{fullShare} (iblk m c 1 t0_0 : S1.Idx → Elt F .f32))
    ∗ (((c : Thread nD τ).loc cc0_stg2_0) ↦{fullShare} (iblk m c 2 t0_0 : S1.Idx → Elt F .f32)))
/-- Every counter of device `c` that matters, at zero. -/
def counters (c : Dev nD) : sProp 𝕄 :=
  iprop(semVal (barCell c) 0 ∗ semVal (loadCell c) 0 ∗ bigSep Finset.univ (fun t => semVal (sendCell c t) 0)
    ∗ bigSep Finset.univ (fun s => semVal (recvCell c s) 0))

theorem all_rows : ∀ c s : Dev nD, s ∈ [up c 7, up c 6, up c 5, up c 4, up c 3, up c 2, up c 1, c] := by decide +kernel

end Cert.KernelIdeal.Exchange

end
-- ==== Proof.Body.lean ====
/-
# The kernel's body on one device

The body from what a device starts with to what it ends with, one lemma of `Steps` per step, in program order.
-/
module

public import proofs.«01_k».proof.Proof.Pieces

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

set_option maxHeartbeats 4000000 in
/-- The body on device `c`. -/
theorem wp_body (c : Dev nD) (Q : PUnit → sProp 𝕄) :
    iprop(records m K ∗ levAts L lv ∗ ghost c ∗ credits c ∗ semVal (loadCell c) 0 ∗ debt c (O₀ c)
        ∗ xPt m c ∗ scales m c ∗ wPt m c ∗ scratch c ∗ oPt m c [])
      ⊢ iprop(((debt c 0 ∗ counters c ∗ xPt m c ∗ scales m c ∗ wPt m c ∗ scratch c
              ∗ ((c : Thread nD τ).loc cc0_stg3_0) ↦{fullShare} outAt m c) -∗ Q ⟨⟩)
        -∗ runs c (cc0_body xM (Memref.isWhole_whole _) wM (Memref.isWhole_whole _) sxM (Memref.isWhole_whole _) swM (Memref.isWhole_whole _)
            oM (Memref.isWhole_whole _) tM (Memref.isWhole_whole _) sM (Memref.isWhole_whole _) rM (Memref.isWhole_whole _)
            cc0_scratch3 cc0_scratch4 cc0_scratch5) Q) := by
  simp only [cc0_body_eq_skeleton, cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, smemLoad, smemLoadElt, Prog.lift, Prog.bind_op, Prog.bind_ret, Prog.pure_eq_ret, wp_deviceId]
  unfold ghost credits scales scratch
  rw [bigSep_around c, bigSep_steps, bigSep_around c, bigSep_steps, bigSep_around c, bigSep_others c]
  iintro ⟨#HK, #Hlev, ⟨⟨-, TB1, TB2, TB3, TB4, TB5, TB6, TB7⟩, ⟨-, TS1, TS2, TS3, TS4, TS5, TS6, TS7⟩, ⟨-, TR1, TR2, TR3, TR4, TR5, TR6, TR7⟩, AB, ⟨AS0, AS1, AS2, AS3, AS4, AS5, AS6, AS7⟩, ⟨AR0, AR1, AR2, AR3, AR4, AR5, AR6, AR7⟩⟩,
    ⟨CB, CR1, CR2, CR3, CR4, CR5, CR6, CR7⟩, HV, HO, HX, ⟨HSX, HSW⟩, HW, ⟨HT, ⟨%fs, HS⟩, ⟨%fr, HR⟩⟩, HD⟩ Hk
  ihave HS := (send_slots c fs) $$ HS
  ihave HS := (Entails.of_eq (bigSep_steps _)) $$ HS
  icases HS with ⟨S0, S1, S2, S3, S4, S5, S6, S7⟩
  ihave HR := (recv_slots c fr) $$ HR
  ihave HR := (Entails.of_eq (bigSep_around c _)) $$ HR
  icases HR with ⟨R0, R1, R2, R3, R4, R5, R6, R7⟩
  unfold O₀
  -- ready, to the device 1 places on
  iapply (wp_ready m K c _ 1 (by decide) (dev1_eq c) rfl (tilesFrom1 c + oweBar c 7 + oweBar c 6 + oweBar c 5 + oweBar c 4 + oweBar c 3 + oweBar c 2)) $$ [HO TB1 R1]
  · isplitr; · iexact HK
    isplitl [HO]; · iexact HO
    isplitl [TB1]; · iexact TB1
    iexact R1
  iintro HO
  -- ready, to the device 2 places on
  iapply (wp_ready m K c _ 2 (by decide) (dev2_eq c) rfl (tilesFrom1 c + oweBar c 7 + oweBar c 6 + oweBar c 5 + oweBar c 4 + oweBar c 3)) $$ [HO TB2 R2]
  · isplitr; · iexact HK
    isplitl [HO]; · iexact HO
    isplitl [TB2]; · iexact TB2
    iexact R2
  iintro HO
  -- ready, to the device 3 places on
  iapply (wp_ready m K c _ 3 (by decide) (dev3_eq c) rfl (tilesFrom1 c + oweBar c 7 + oweBar c 6 + oweBar c 5 + oweBar c 4)) $$ [HO TB3 R3]
  · isplitr; · iexact HK
    isplitl [HO]; · iexact HO
    isplitl [TB3]; · iexact TB3
    iexact R3
  iintro HO
  -- ready, to the device 4 places on
  iapply (wp_ready m K c _ 4 (by decide) (dev4_eq c) rfl (tilesFrom1 c + oweBar c 7 + oweBar c 6 + oweBar c 5)) $$ [HO TB4 R4]
  · isplitr; · iexact HK
    isplitl [HO]; · iexact HO
    isplitl [TB4]; · iexact TB4
    iexact R4
  iintro HO
  -- ready, to the device 5 places on
  iapply (wp_ready m K c _ 5 (by decide) (dev5_eq c) rfl (tilesFrom1 c + oweBar c 7 + oweBar c 6)) $$ [HO TB5 R5]
  · isplitr; · iexact HK
    isplitl [HO]; · iexact HO
    isplitl [TB5]; · iexact TB5
    iexact R5
  iintro HO
  -- ready, to the device 6 places on
  iapply (wp_ready m K c _ 6 (by decide) (dev6_eq c) rfl (tilesFrom1 c + oweBar c 7)) $$ [HO TB6 R6]
  · isplitr; · iexact HK
    isplitl [HO]; · iexact HO
    isplitl [TB6]; · iexact TB6
    iexact R6
  iintro HO
  -- ready, to the device 7 places on
  iapply (wp_ready m K c _ 7 (by decide) (dev7_eq c) rfl (tilesFrom1 c)) $$ [HO TB7 R7]
  · isplitr; · iexact HK
    isplitl [HO]; · iexact HO
    isplitl [TB7]; · iexact TB7
    iexact R7
  iintro HO
  -- the barrier
  iapply (wp_meet m K c rfl (tilesFrom1 c) (above1 c)) $$ [HO AB CB]
  · isplitr; · iexact HK
    isplitr; · iexact Hlev
    isplitl [HO]; · iexact HO
    isplitl [AB]; · iexact AB
    iexact CB
  iintro ⟨HO, AB, HP⟩
  ihave HP := (Entails.of_eq (bigSep_others c _)) $$ HP
  icases HP with ⟨P1, P2, P3, P4, P5, P6, P7⟩
  -- the scales
  iapply (wp_scaleX m c) $$ HSX; iintro HSX
  iapply (wp_scaleW m c) $$ HSW; iintro HSW
  -- step 0
  iapply (wp_weight m c c 0 (col_slice _ (off1_own c) _ _) (col_slice _ (off1_own c) _ _) rfl rfl rfl (tilesFrom1 c) (above1 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_rows m c c [] (off2_at c) (rowsOf_self m c).symm) $$ HD; iintro HD
  -- step 1
  iapply (wp_weight m c (up c 1) 1 (col_slice _ (off1_at c 1) _ _) (col_slice _ (off1_at c 1) _ _) rfl rfl rfl (tilesFrom1 c) (above1 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 1 (by decide) (dev8_eq c) rfl (sent1 _ _ _) rfl (recv_slice c (off4_at c) _ _)
    (send_sem_at 1 rfl _) (recv_sem_at c (off3_at c) _) (send_sem_at 1 rfl _) (tilesFrom2 c) (above2 c)) $$ [HO S1 P1 TS1 TR1 AS1]
  · isplitr; · iexact HK
    isplitr; · iexact Hlev
    isplitl [HO]; · iexact HO
    isplitl [S1]; · iexact S1
    isplitl [P1]; · iexact P1
    isplitl [TS1]; · iexact TS1
    isplitl [TR1]; · iexact TR1
    iexact AS1
  iintro ⟨HO, S1, AS1⟩
  -- step 2
  iapply (wp_weight m c (up c 2) 0 (col_slice _ (off1_at c 2) _ _) (col_slice _ (off1_at c 2) _ _) rfl rfl rfl (tilesFrom2 c) (above2 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 2 (by decide) (dev9_eq c) rfl rfl rfl (recv_slice c (off4_at c) _ _)
    (send_sem_at 2 rfl _) (recv_sem_at c (off3_at c) _) (send_sem_at 2 rfl _) (tilesFrom3 c) (above3 c)) $$ [HO S2 P2 TS2 TR2 AS2]
  · isplitr; · iexact HK
    isplitr; · iexact Hlev
    isplitl [HO]; · iexact HO
    isplitl [S2]; · iexact S2
    isplitl [P2]; · iexact P2
    isplitl [TS2]; · iexact TS2
    isplitl [TR2]; · iexact TR2
    iexact AS2
  iintro ⟨HO, S2, AS2⟩
  -- step 3
  iapply (wp_weight m c (up c 3) 1 (col_slice _ (off1_at c 3) _ _) (col_slice _ (off1_at c 3) _ _) rfl rfl rfl (tilesFrom3 c) (above3 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 3 (by decide) (dev10_eq c) rfl (sent3 _ _ _) rfl (recv_slice c (off4_at c) _ _)
    (send_sem_at 3 rfl _) (recv_sem_at c (off3_at c) _) (send_sem_at 3 rfl _) (tilesFrom4 c) (above4 c)) $$ [HO S3 P3 TS3 TR3 AS3]
  · isplitr; · iexact HK
    isplitr; · iexact Hlev
    isplitl [HO]; · iexact HO
    isplitl [S3]; · iexact S3
    isplitl [P3]; · iexact P3
    isplitl [TS3]; · iexact TS3
    isplitl [TR3]; · iexact TR3
    iexact AS3
  iintro ⟨HO, S3, AS3⟩
  -- step 4
  iapply (wp_weight m c (up c 4) 0 (col_slice _ (off1_at c 4) _ _) (col_slice _ (off1_at c 4) _ _) rfl rfl rfl (tilesFrom4 c) (above4 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 4 (by decide) (dev11_eq c) rfl (sent4 _ _ _) rfl (recv_slice c (off4_at c) _ _)
    (send_sem_at 4 rfl _) (recv_sem_at c (off3_at c) _) (send_sem_at 4 rfl _) (tilesFrom5 c) (above5 c)) $$ [HO S4 P4 TS4 TR4 AS4]
  · isplitr; · iexact HK
    isplitr; · iexact Hlev
    isplitl [HO]; · iexact HO
    isplitl [S4]; · iexact S4
    isplitl [P4]; · iexact P4
    isplitl [TS4]; · iexact TS4
    isplitl [TR4]; · iexact TR4
    iexact AS4
  iintro ⟨HO, S4, AS4⟩
  -- step 5
  iapply (wp_weight m c (up c 5) 1 (col_slice _ (off1_at c 5) _ _) (col_slice _ (off1_at c 5) _ _) rfl rfl rfl (tilesFrom5 c) (above5 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 5 (by decide) (dev12_eq c) rfl (sent5 _ _ _) rfl (recv_slice c (off4_at c) _ _)
    (send_sem_at 5 rfl _) (recv_sem_at c (off3_at c) _) (send_sem_at 5 rfl _) (tilesFrom6 c) (above6 c)) $$ [HO S5 P5 TS5 TR5 AS5]
  · isplitr; · iexact HK
    isplitr; · iexact Hlev
    isplitl [HO]; · iexact HO
    isplitl [S5]; · iexact S5
    isplitl [P5]; · iexact P5
    isplitl [TS5]; · iexact TS5
    isplitl [TR5]; · iexact TR5
    iexact AS5
  iintro ⟨HO, S5, AS5⟩
  -- step 6
  iapply (wp_weight m c (up c 6) 0 (col_slice _ (off1_at c 6) _ _) (col_slice _ (off1_at c 6) _ _) rfl rfl rfl (tilesFrom6 c) (above6 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 6 (by decide) (dev13_eq c) rfl (sent6 _ _ _) rfl (recv_slice c (off4_at c) _ _)
    (send_sem_at 6 rfl _) (recv_sem_at c (off3_at c) _) (send_sem_at 6 rfl _) (tilesFrom7 c) (above7 c)) $$ [HO S6 P6 TS6 TR6 AS6]
  · isplitr; · iexact HK
    isplitr; · iexact Hlev
    isplitl [HO]; · iexact HO
    isplitl [S6]; · iexact S6
    isplitl [P6]; · iexact P6
    isplitl [TS6]; · iexact TS6
    isplitl [TR6]; · iexact TR6
    iexact AS6
  iintro ⟨HO, S6, AS6⟩
  -- step 7
  iapply (wp_weight m c (up c 7) 1 (col_slice _ (off1_at c 7) _ _) (col_slice _ (off1_at c 7) _ _) rfl rfl rfl (tilesFrom7 c) (above7 c)) $$ [HO HW HT HV HX]
  · isplitr; · iexact Hlev
    isplitl [HO]; · iexact HO
    isplitl [HW]; · iexact HW
    isplitl [HT]; · iexact HT
    isplitl [HV]; · iexact HV
    iexact HX
  iintro ⟨HO, HW, HT, HV, HX⟩
  iapply (wp_send m K c _ 7 (by decide) (dev14_eq c) rfl (sent7 _ _ _) rfl (recv_slice c (off4_at c) _ _)
    (send_sem_at 7 rfl _) (recv_sem_at c (off3_at c) _) (send_sem_at 7 rfl _) (0) (above_zero 1)) $$ [HO S7 P7 TS7 TR7 AS7]
  · isplitr; · iexact HK
    isplitr; · iexact Hlev
    isplitl [HO]; · iexact HO
    isplitl [S7]; · iexact S7
    isplitl [P7]; · iexact P7
    isplitl [TS7]; · iexact TS7
    isplitl [TR7]; · iexact TR7
    iexact AS7
  iintro ⟨HO, S7, AS7⟩
  -- the tile of the device 1 places on
  iapply (wp_take m K c (up c 1) (up_ne c 1 (by decide)) [c] (recv_sem_at _ (off5_at c 0) _) (off7_at c 0) (off8_at c 0) (fun _ => rfl)) $$ [HO CR1 AR1 HD]
  · isplitr; · iexact HK
    isplitl [HO]; · iexact HO
    isplitl [CR1]; · iexact CR1
    isplitl [AR1]; · iexact AR1
    iexact HD
  iintro ⟨HO, R1, AR1, HD⟩
  -- the tile of the device 2 places on
  iapply (wp_take m K c (up c 2) (up_ne c 2 (by decide)) [up c 1, c] (recv_sem_at _ (off5_at c 1) _) (off7_at c 1) (off8_at c 1) (fun _ => rfl)) $$ [HO CR2 AR2 HD]
  · isplitr; · iexact HK
    isplitl [HO]; · iexact HO
    isplitl [CR2]; · iexact CR2
    isplitl [AR2]; · iexact AR2
    iexact HD
  iintro ⟨HO, R2, AR2, HD⟩
  -- the tile of the device 3 places on
  iapply (wp_take m K c (up c 3) (up_ne c 3 (by decide)) [up c 2, up c 1, c] (recv_sem_at _ (off5_at c 2) _) (off7_at c 2) (off8_at c 2) (fun _ => rfl)) $$ [HO CR3 AR3 HD]
  · isplitr; · iexact HK
    isplitl [HO]; · iexact HO
    isplitl [CR3]; · iexact CR3
    isplitl [AR3]; · iexact AR3
    iexact HD
  iintro ⟨HO, R3, AR3, HD⟩
  -- the tile of the device 4 places on
  iapply (wp_take m K c (up c 4) (up_ne c 4 (by decide)) [up c 3, up c 2, up c 1, c] (recv_sem_at _ (off5_at c 3) _) (off7_at c 3) (off8_at c 3) (fun _ => rfl)) $$ [HO CR4 AR4 HD]
  · isplitr; · iexact HK
    isplitl [HO]; · iexact HO
    isplitl [CR4]; · iexact CR4
    isplitl [AR4]; · iexact AR4
    iexact HD
  iintro ⟨HO, R4, AR4, HD⟩
  -- the tile of the device 5 places on
  iapply (wp_take m K c (up c 5) (up_ne c 5 (by decide)) [up c 4, up c 3, up c 2, up c 1, c] (recv_sem_at _ (off5_at c 4) _) (off7_at c 4) (off8_at c 4) (fun _ => rfl)) $$ [HO CR5 AR5 HD]
  · isplitr; · iexact HK
    isplitl [HO]; · iexact HO
    isplitl [CR5]; · iexact CR5
    isplitl [AR5]; · iexact AR5
    iexact HD
  iintro ⟨HO, R5, AR5, HD⟩
  -- the tile of the device 6 places on
  iapply (wp_take m K c (up c 6) (up_ne c 6 (by decide)) [up c 5, up c 4, up c 3, up c 2, up c 1, c] (recv_sem_at _ (off5_at c 5) _) (off7_at c 5) (off8_at c 5) (fun _ => rfl)) $$ [HO CR6 AR6 HD]
  · isplitr; · iexact HK
    isplitl [HO]; · iexact HO
    isplitl [CR6]; · iexact CR6
    isplitl [AR6]; · iexact AR6
    iexact HD
  iintro ⟨HO, R6, AR6, HD⟩
  -- the tile of the device 7 places on
  iapply (wp_take m K c (up c 7) (up_ne c 7 (by decide)) [up c 6, up c 5, up c 4, up c 3, up c 2, up c 1, c] (recv_sem_at _ (off5_at c 6) _) (off7_at c 6) (off8_at c 6) (fun _ => rfl)) $$ [HO CR7 AR7 HD]
  · isplitr; · iexact HK
    isplitl [HO]; · iexact HO
    isplitl [CR7]; · iexact CR7
    isplitl [AR7]; · iexact AR7
    iexact HD
  iintro ⟨HO, R7, AR7, HD⟩
  -- the counters close
  imod (close_bar m K c) $$ [AB] with AB
  · isplitr; · iexact HK
    iexact AB
  imod (close_send m K c 0 0 (fun r _ => duties_send_none m c r)) $$ [AS0] with AS0
  · isplitr; · iexact HK
    iexact AS0
  imod (close_send m K c 1 1 (duties_later m _)) $$ [AS1] with AS1
  · isplitr; · iexact HK
    iexact AS1
  imod (close_send m K c 2 1 (duties_later m _)) $$ [AS2] with AS2
  · isplitr; · iexact HK
    iexact AS2
  imod (close_send m K c 3 1 (duties_later m _)) $$ [AS3] with AS3
  · isplitr; · iexact HK
    iexact AS3
  imod (close_send m K c 4 1 (duties_later m _)) $$ [AS4] with AS4
  · isplitr; · iexact HK
    iexact AS4
  imod (close_send m K c 5 1 (duties_later m _)) $$ [AS5] with AS5
  · isplitr; · iexact HK
    iexact AS5
  imod (close_send m K c 6 1 (duties_later m _)) $$ [AS6] with AS6
  · isplitr; · iexact HK
    iexact AS6
  imod (close_send m K c 7 1 (duties_later m _)) $$ [AS7] with AS7
  · isplitr; · iexact HK
    iexact AS7
  imod (close_recv m K c c 0 (fun r _ => duties_recv_none m c r)) $$ [AR0] with AR0
  · isplitr; · iexact HK
    iexact AR0
  imod (close_recv m K c (up c 1) 1 (duties_later m _)) $$ [AR1] with AR1
  · isplitr; · iexact HK
    iexact AR1
  imod (close_recv m K c (up c 2) 1 (duties_later m _)) $$ [AR2] with AR2
  · isplitr; · iexact HK
    iexact AR2
  imod (close_recv m K c (up c 3) 1 (duties_later m _)) $$ [AR3] with AR3
  · isplitr; · iexact HK
    iexact AR3
  imod (close_recv m K c (up c 4) 1 (duties_later m _)) $$ [AR4] with AR4
  · isplitr; · iexact HK
    iexact AR4
  imod (close_recv m K c (up c 5) 1 (duties_later m _)) $$ [AR5] with AR5
  · isplitr; · iexact HK
    iexact AR5
  imod (close_recv m K c (up c 6) 1 (duties_later m _)) $$ [AR6] with AR6
  · isplitr; · iexact HK
    iexact AR6
  imod (close_recv m K c (up c 7) 1 (duties_later m _)) $$ [AR7] with AR7
  · isplitr; · iexact HK
    iexact AR7
  rw [wp_ret]; imodintro
  iapply Hk
  isplitl [HO]; · iexact HO
  isplitl [AB HV AS0 AS1 AS2 AS3 AS4 AS5 AS6 AS7 AR0 AR1 AR2 AR3 AR4 AR5 AR6 AR7]
  · unfold counters
    rw [bigSep_steps, bigSep_around c]
    isplitl [AB]; · iexact AB
    isplitl [HV]; · iexact HV
    isplitl [AS0 AS1 AS2 AS3 AS4 AS5 AS6 AS7]
    · isplitl [AS0]; · iexact AS0
      isplitl [AS1]; · iexact AS1
      isplitl [AS2]; · iexact AS2
      isplitl [AS3]; · iexact AS3
      isplitl [AS4]; · iexact AS4
      isplitl [AS5]; · iexact AS5
      isplitl [AS6]; · iexact AS6
      iexact AS7
    · isplitl [AR0]; · iexact AR0
      isplitl [AR1]; · iexact AR1
      isplitl [AR2]; · iexact AR2
      isplitl [AR3]; · iexact AR3
      isplitl [AR4]; · iexact AR4
      isplitl [AR5]; · iexact AR5
      isplitl [AR6]; · iexact AR6
      iexact AR7
  isplitl [HX]; · iexact HX
  isplitl [HSX HSW]
  · isplitl [HSX]; · iexact HSX
    iexact HSW
  isplitl [HW]; · iexact HW
  isplitl [HT S0 S1 S2 S3 S4 S5 S6 S7 R0 R1 R2 R3 R4 R5 R6 R7]
  · isplitl [HT]; · iexact HT
    isplitl [S0 S1 S2 S3 S4 S5 S6 S7]
    · iapply (send_whole c fs)
      rw [bigSep_steps]
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iapply (recv_whole c fr)
      rw [bigSep_around c]
      isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
  unfold oPt
  icases HD with ⟨%f, %hf, HD⟩
  rw [← eq_outAt m c f fun s => hf s (all_rows c s)]
  iexact HD

end Cert.KernelIdeal.Exchange

end
-- ==== Proof.Launch.lean ====
/-
# The launch

What the launch deals the devices: the seventeen cells of every device in their first round, a token for every duty, and
the credit for what the others owe. The tokens are minted at the cells' owners and passed to the devices that pay.
-/
module

public import proofs.«01_k».proof.Proof.Body

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The kernel's own semaphores: the one for weight copies, the send ones and the receive ones. -/
def osem : CI → SemLoc sig
  | .inl _ => .dma loadS
  | .inr (.inl t) => .dma (sendS t)
  | .inr (.inr s) => .dma (recvS s)

theorem ownSemFacts : Pipeline.OwnSemFacts cfg0.spec osem := by decide +kernel

theorem csem_injective : Function.Injective csem := by decide +kernel

theorem kcell_injective : Function.Injective kcell := by
  rintro ⟨c, k⟩ ⟨c', k'⟩ h
  have h1 : c = c' := congrArg (fun g : GSem nD τ sig => g.1.1) h
  exact Prod.ext h1 (csem_injective (congrArg Prod.snd h))

/-- A conjunction over one device's cells. -/
theorem bigSep_CI (Φ : CI → sProp 𝕄) :
    bigSep Finset.univ Φ = iprop(Φ (.inl ()) ∗ bigSep Finset.univ (fun t => Φ (.inr (.inl t))) ∗ bigSep Finset.univ (fun s => Φ (.inr (.inr s)))) := by
  rw [BI.bigSep_univ_sum, BI.bigSep_univ_sum, show (Finset.univ : Finset Unit) = {()} from rfl, bigSep_singleton]
  rfl

theorem ownSems0_eq (c : Dev nD) :
    (Pipeline.ownSems0 (Ix := Unit) (Name := ℕ) (U := UU) (Lvl := ℕ) (Val := Elt F) (τ := τ) osem c : sProp 𝕄)
      = iprop(semVal (loadCell c) 0 ∗ bigSep Finset.univ (fun t => semVal (sendCell c t) 0) ∗ bigSep Finset.univ (fun s => semVal (recvCell c s) 0)) := by
  unfold Pipeline.ownSems0; rw [bigSep_CI]; rfl
theorem unscopedSems0_eq (c : Dev nD) : (unscopedSems0 c : sProp 𝕄) = semVal (barCell c) 0 := by
  unfold unscopedSems0; rw [bigSep_eq_bigSepL_of_eq [barS] (by decide) (by decide)]; rfl

/-- Every device's cells. -/
def allCells : Finset (GSem nD τ sig) := Finset.univ.map ⟨kcell, kcell_injective⟩

/-! ## The tokens -/

/-- The duties of one device's cells: a barrier's by the device that pays, one for each other cell. -/
abbrev TI : Type := Fin 8 ⊕ (Fin 8 ⊕ Fin 8)
/-- Each as a token. -/
def tokOf (x : Dev nD × TI) : GSem nD τ sig × ℕ × Fin 8 :=
  match x.2 with
  | .inl p => (barCell x.1, 0, p)
  | .inr (.inl t) => (sendCell x.1 t, 0, 0)
  | .inr (.inr s) => (recvCell x.1 s, 0, 0)
/-- A token without its device. -/
def tokAt : TI → SemLoc sig × Fin 8
  | .inl p => (barS, p)
  | .inr (.inl t) => (.dma (sendS t), 0)
  | .inr (.inr s) => (.dma (recvS s), 0)
theorem tokAt_injective : Function.Injective tokAt := by decide +kernel
theorem tokOf_at (x : Dev nD × TI) : ((tokOf x).1.2, (tokOf x).2.2) = tokAt x.2 := by
  rcases x with ⟨c, p | t | s⟩ <;> rfl
theorem tokOf_dev (x : Dev nD × TI) : (tokOf x).1.1.1 = x.1 := by
  rcases x with ⟨c, p | t | s⟩ <;> rfl
theorem tokOf_injective : Function.Injective tokOf := fun x y h =>
  Prod.ext ((tokOf_dev x).symm.trans ((congrArg (fun z => z.1.1.1) h).trans (tokOf_dev y)))
    (tokAt_injective ((tokOf_at x).symm.trans ((congrArg (fun z => (z.1.2, z.2.2)) h).trans (tokOf_at y))))
/-- Every token. -/
def allToks : Finset (GSem nD τ sig × ℕ × Fin 8) := Finset.univ.map ⟨tokOf, tokOf_injective⟩

/-- The tokens of the duties of device `c`'s own cells. -/
def toks (c : Dev nD) : sProp 𝕄 :=
  iprop(bigSep Finset.univ (fun p => dutyTok ER (barCell c) 0 p) ∗ bigSep Finset.univ (fun t => dutyTok ER (sendCell c t) 0 0)
    ∗ bigSep Finset.univ (fun s => dutyTok ER (recvCell c s) 0 0))

theorem bigSep_TI (Φ : TI → sProp 𝕄) :
    bigSep Finset.univ Φ = iprop(bigSep Finset.univ (fun p => Φ (.inl p)) ∗ bigSep Finset.univ (fun t => Φ (.inr (.inl t)))
      ∗ bigSep Finset.univ (fun s => Φ (.inr (.inr s)))) := by
  rw [BI.bigSep_univ_sum, BI.bigSep_univ_sum]; rfl

/-- The launch element. -/
def u₀ : UU := (initOf (Pipeline.cells cfgs cellOf_inj) (Pipeline.launchToks cfgs cellOf_inj), (initOf allCells allToks, 1))

/-- What the launch element deals device `c`. -/
def G (c : Dev nD) : sProp 𝕄 :=
  iprop((bigSep Finset.univ fun k : CI => roundState ER (Rd m) (kcell (c, k)) 0)
    ∗ (bigSep Finset.univ fun k : CI => atPos ER (kcell (c, k)) 0 ∅ 0) ∗ (bigSep Finset.univ fun k : CI => reached ER (kcell (c, k)) 0) ∗ toks c)

theorem bigSep_cells (Φ : GSem nD τ sig → sProp 𝕄) :
    bigSep allCells Φ = bigSep Finset.univ fun c : Dev nD => bigSep Finset.univ fun k : CI => Φ (kcell (c, k)) := by
  unfold allCells; rw [bigSep_map, bigSep_univ_prod]; rfl
theorem bigSep_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_TI]; rfl

theorem fund_exchange : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (bigSep_cells fun g => roundState ER (Rd m) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G; simp only [bigSep_sep']
  isplitl [Hst]; · iexact Hst
  isplitl [Hat]; · iexact Hat
  isplitl [Hr]; · iexact Hr
  iexact Htok

/-! ## The global step -/

theorem cells_zero (c : Dev nD) :
    iprop(Pipeline.ownSems0 (Ix := Unit) (Name := ℕ) (U := UU) (Lvl := ℕ) (Val := Elt F) (τ := τ) osem c ∗ unscopedSems0 c)
      ⊢ iprop(semVal (loadCell c) 0 ∗ bigSep Finset.univ fun k : CI => semVal (kcell (c, k)) 0 : sProp 𝕄) := by
  rw [ownSems0_eq, unscopedSems0_eq, bigSep_CI]
  iintro ⟨⟨HL, HS, HV⟩, HB⟩
  isplitl [HL]; · iexact HL
  isplitl [HB]; · iexact HB
  isplitl [HS]; · iexact HS
  iexact HV

/-- One device's part, its cells put under invariants. -/
def opened (c : Dev nD) : sProp 𝕄 :=
  iprop((bigSep Finset.univ fun k : CI => iprop(∃ κ : ℕ, cellInv ER (Rd m) κ (kcell (c, k))))
    ∗ (bigSep Finset.univ fun k : CI => reached ER (kcell (c, k)) 0)
    ∗ (bigSep Finset.univ fun k : CI => atPos ER (kcell (c, k)) 0 ∅ 0) ∗ toks c ∗ semVal (loadCell c) 0)

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  have hopen : iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G opened
  iintro ⟨Hos, Hus, Hst, Hat, Hr, Htok⟩
  ihave Hv := (cells_zero (F := F) c) $$ [Hos Hus]
  · isplitl [Hos] <;> iassumption
  icases Hv with ⟨HL, Hv⟩
  imod hopen $$ [Hv Hst] with Hinv
  · isplitl [Hv] <;> iassumption
  imodintro
  isplitl [Hinv]; · iexact Hinv
  isplitl [Hr]; · iexact Hr
  isplitl [Hat]; · iexact Hat
  isplitl [Htok] <;> iassumption

/-- What device `c` keeps for itself: its positions and the tokens of the duties it pays. -/
theorem deal_tokens :
    iprop((bigSep Finset.univ fun c : Dev nD => bigSep Finset.univ fun k : CI => (atPos ER (kcell (c, k)) 0 ∅ 0 : sProp 𝕄))
        ∗ bigSep Finset.univ fun c : Dev nD => (toks c : sProp 𝕄))
      ⊢ bigSep Finset.univ fun c : Dev nD => (ghost c : sProp 𝕄) := by
  unfold toks ghost
  rw [bigSep_congr (s := Finset.univ) (fun (c : Dev nD) _ => bigSep_CI fun k => (atPos ER (kcell (c, k)) 0 ∅ 0 : sProp 𝕄))]
  simp only [bigSep_sep']
  rw [BI.bigSep_univ_comm (fun c q : Dev nD => (dutyTok ER (barCell q) 0 c : sProp 𝕄)),
    BI.bigSep_univ_comm (fun c q : Dev nD => (dutyTok ER (recvCell q c) 0 0 : sProp 𝕄))]
  iintro ⟨⟨HAB, HAS, HAR⟩, HTB, HTS, HTR⟩
  isplitl [HTB]; · iexact HTB
  isplitl [HTS]; · iexact HTS
  isplitl [HTR]; · iexact HTR
  isplitl [HAB]; · iexact HAB
  isplitl [HAS]; · iexact HAS
  iexact HAR

/-- What a device starts from. -/
def dealt (c : Dev nD) : sProp 𝕄 := iprop((∃ K, records m K) ∗ ghost c ∗ semVal (loadCell c) 0)

theorem deal : (bigSep Finset.univ (opened (F := F) m) : sProp 𝕄) ⊢ bigSep Finset.univ (dealt m) := by
  have hshare (K : Dev nD × CI → ℕ) : iprop(records (F := F) m K ∗ bigSep Finset.univ fun c : Dev nD => iprop(ghost c ∗ semVal (loadCell c) 0))
      ⊢ bigSep Finset.univ (dealt m) := by
    have hone (c : Dev nD) : iprop(records (F := F) m K ∗ (ghost c ∗ semVal (loadCell c) 0)) ⊢ dealt m c := by
      unfold dealt
      iintro ⟨HK, HG⟩
      isplitl [HK]; · iexists K; iexact HK
      iexact HG
    exact (sep_mono_left (BI.bigSep_of_persistent Finset.univ _)).trans (by rw [← bigSep_sep']; exact bigSep_mono fun c _ => hone c)
  unfold opened
  simp only [bigSep_sep']
  rw [← bigSep_univ_prod (fun x : Dev nD × CI => iprop(∃ κ : ℕ, cellInv ER (Rd m) κ (kcell x))),
    ← bigSep_univ_prod (fun x : Dev nD × CI => (reached ER (kcell x) 0 : sProp 𝕄))]
  iintro ⟨HI, HR, HA, HT, HL⟩
  ihave HK := (BI.bigSep_exists_pi Finset.univ (fun (x : Dev nD × CI) (κ : ℕ) => (cellInv ER (Rd m) κ (kcell x) : sProp 𝕄))) $$ HI
  icases HK with ⟨%K, HI⟩
  iapply (hshare K)
  isplitl [HI HR]
  · unfold records; rw [bigSep_sep']; isplitl [HI] <;> iassumption
  · rw [bigSep_sep']
    isplitr [HL]
    · iapply deal_tokens; isplitl [HA] <;> iassumption
    · iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => open_cells m c).trans (bigSep_fupd _ _)).trans (BI.fupd_mono (deal m))

/-! ## The launch credit -/

theorem bar_eq_iff (a b : Dev nD) : barCell a = barCell b ↔ a = b :=
  ⟨fun h => congrArg (fun g : GSem nD τ sig => g.1.1) h, fun h => h ▸ rfl⟩
theorem recv_eq_iff (a b : Dev nD) (s t : Fin 8) : recvCell a s = recvCell b t ↔ a = b ∧ s = t :=
  ⟨fun h => ⟨congrArg (fun g : GSem nD τ sig => g.1.1) h,
      Role.recv.inj ((role_recv s).symm.trans ((congrArg (fun g : GSem nD τ sig => role g.2) h).trans (role_recv t)))⟩,
    fun h => by rw [h.1, h.2]⟩
theorem bar_ne_recv (a b : Dev nD) (s : Fin 8) : barCell a ≠ recvCell b s := fun h => by
  have h' := congrArg (fun g : GSem nD τ sig => role g.2) h
  dsimp only at h'
  rw [role_bar, role_recv] at h'
  cases h'

/-- Device `d` owes device `c`'s barrier a unit, unless it is its own. -/
theorem owed_bar (d c : Dev nD) : O₀ d (barCell c) () = if d = c then 0 else 1 := by
  have h (k : ℕ) : oweTile d k (barCell c) () = 0 := by rw [tallyAt_apply, if_neg fun h => bar_ne_recv _ _ _ h.1]
  have h' (k : ℕ) : oweBar d k (barCell c) () = if c = up d k then 1 else 0 := by
    rw [tallyAt_apply]; simp only [bar_eq_iff, and_true]
  unfold O₀
  simp only [Pi.add_apply, Finsupp.add_apply, h, h', Pi.zero_apply, Finsupp.zero_apply]
  clear h h'; revert c d; decide +kernel

/-- Device `d` owes device `c`'s receive cell `s` a tile when `s` is `d`, unless it is its own. -/
theorem owed_recv (d c : Dev nD) (s : Fin 8) (hs : s ≠ c) : O₀ d (recvCell c s) () = if d = s then N else 0 := by
  have h (k : ℕ) : oweTile d k (recvCell c s) () = N * if c = up d k ∧ s = d then 1 else 0 := by
    rw [tallyAt_apply]; simp only [recv_eq_iff, and_true, mul_ite, mul_one, mul_zero]
  have h' (k : ℕ) : oweBar d k (recvCell c s) () = 0 := by rw [tallyAt_apply, if_neg fun h => bar_ne_recv _ _ _ h.1.symm]
  have e : ∀ d c s : Dev nD, s ≠ c → (if c = up d 7 ∧ s = d then 1 else 0) + (if c = up d 6 ∧ s = d then 1 else 0) + (if c = up d 5 ∧ s = d then 1 else 0)
      + (if c = up d 4 ∧ s = d then 1 else 0) + (if c = up d 3 ∧ s = d then 1 else 0) + (if c = up d 2 ∧ s = d then 1 else 0)
      + (if c = up d 1 ∧ s = d then 1 else 0) = if d = s then 1 else 0 := by decide +kernel
  unfold O₀
  simp only [Pi.add_apply, Finsupp.add_apply, h, h', Pi.zero_apply, Finsupp.zero_apply, Nat.zero_add, Nat.add_zero, ← Nat.mul_add]
  rw [e d c s hs, mul_ite, mul_one, mul_zero]

theorem launch_bar (c : Dev nD) :
    tallyOn (barCell c) (launchCredit (Pipeline.owing O₀) 0 (barCell c)) = (tallyAt (barCell c) () 7 : CellTallies nD τ sig Unit) := by
  have e : ∀ c : Dev nD, (∑ d : Dev nD, if d = c then 0 else 1) = 7 := by decide +kernel
  unfold tallyAt; refine congrArg _ (Finsupp.ext fun u => ?_); cases u
  rw [Pipeline.launchCredit_owing, Finsupp.single_eq_same, Finset.sum_congr rfl fun d _ => owed_bar d c, e]

theorem launch_recv (c : Dev nD) (s : Fin 8) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ s fun _ => N, if_pos (Finset.mem_univ _)]

/-- The receive semaphores, as places. -/
def recvAt : Fin 8 ↪ SemLoc sig := ⟨fun s => .dma (recvS s), by decide +kernel⟩

theorem creds (c : Dev nD) : (Pipeline.launchCred O₀ c : sProp 𝕄) ⊢ credits c := by
  have hsub : (Finset.univ.erase c).map recvAt ⊆ (Finset.univ : Finset (SemLoc sig)).erase barS := fun x hx => by
    obtain ⟨s, -, rfl⟩ := Finset.mem_map.1 hx
    exact Finset.mem_erase.2 ⟨fun h => Role.noConfusion ((role_recv s).symm.trans ((congrArg role h).trans role_bar)), Finset.mem_univ _⟩
  unfold Pipeline.launchCred credits
  rw [bigSep_univ_at _ barS]
  refine BI.sep_mono ?_ ?_
  · rw [← launch_bar c]; exact BI.Entails.refl _
  · refine (BI.bigSep_subset hsub).trans ?_
    rw [bigSep_map]
    refine BI.bigSep_mono fun s hs => ?_
    rw [← launch_recv c s (Finset.ne_of_mem_erase hs)]
    exact BI.Entails.refl _

end Cert.KernelIdeal.Exchange

end
-- ==== Proof.Run.lean ====
/-
# The run

The body as the pipeline's one point, the launch, and what every run ends in: the result of every device is the product
it computes from everyone's rows, the arguments are untouched and every counter is at zero.
-/
module

public import proofs.«01_k».proof.Proof.Launch
public import Idealize.ShloMosaic.Lib.Quiescent
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- Before the body. -/
def before (c : Dev nD) : sProp 𝕄 := iprop((∃ K, records m K) ∗ ghost c ∗ credits c ∗ levAts L lv ∗ semVal (loadCell c) 0 ∗ wPt m c ∗ scratch c)
/-- After it. -/
def after (c : Dev nD) : sProp 𝕄 := iprop(counters c ∗ wPt m c ∗ scratch c)

def dats (_ : Fin 1) (c : Dev nD) : Dat τ (Elt F) Unit ℕ UU ℕ cfg0 c where
  A w := V m c (Pipeline.arrRef spec0 w)
  after w _ := match w with
    | ⟨0, _⟩ => xBlk m c
    | ⟨1, _⟩ => iblk m c 1 t0_0
    | ⟨2, _⟩ => iblk m c 2 t0_0
    | ⟨3, _⟩ => outAt m c
  Φ t := match t with
    | ⟨0, _⟩ => before m c
    | ⟨_ + 1, _⟩ => after m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (c : Dev nD) : sProp 𝕄 :=
  iprop(before m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def pointPost (c : Dev nD) : sProp 𝕄 :=
  iprop(after m c ∗ (dats m 0 c).owesAt () t0_0.succ ∗ stg c cc0_stg0_0 (xBlk m c)
    ∗ stg c cc0_stg1_0 (iblk m c 1 t0_0) ∗ stg c cc0_stg2_0 (iblk m c 2 t0_0) ∗ stg c cc0_stg3_0 (outAt m c))

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem staged_x (c : Dev nD) (d) : (dats m 0 c).before (0 : Fin 4) t0_0 d = xBlk m c := by
  unfold Dat.before; rw [if_pos (fetch0_0 t0_0)]; rfl
theorem staged_scaleX (c : Dev nD) (d) : (dats m 0 c).before (1 : Fin 4) t0_0 d = iblk m c 1 t0_0 := by
  unfold Dat.before; rw [if_pos (fetch0_1 t0_0)]; rfl
theorem staged_scaleW (c : Dev nD) (d) : (dats m 0 c).before (2 : Fin 4) t0_0 d = iblk m c 2 t0_0 := by
  unfold Dat.before; rw [if_pos (fetch0_2 t0_0)]; rfl

theorem point (c : Dev nD) : pointPre m c ⊢ runs c (cc0_body xM (Memref.isWhole_whole _) wM (Memref.isWhole_whole _) sxM (Memref.isWhole_whole _)
    swM (Memref.isWhole_whole _) oM (Memref.isWhole_whole _) tM (Memref.isWhole_whole _) sM (Memref.isWhole_whole _) rM (Memref.isWhole_whole _)
    cc0_scratch3 cc0_scratch4 cc0_scratch5) (fun _ => pointPost m c) := by
  unfold pointPre before
  iintro ⟨⟨⟨%K, HK⟩, HG, HC, Hlev, HL, HW, HS⟩, HO, ⟨%d0, %g0, %hg0, HX⟩, ⟨%d1, %g1, %hg1, HSX⟩, ⟨%d2, %g2, %hg2, HSW⟩, ⟨%d3, %g3, -, HD⟩⟩
  rw [staged_x] at hg0; rw [staged_scaleX] at hg1; rw [staged_scaleW] at hg2
  subst hg0 hg1 hg2
  iapply (wp_body m K c fun _ => pointPost m c) $$ [HK HG HC Hlev HL HW HS HO HX HSX HSW HD]
  · isplitl [HK]; · iexact HK
    isplitl [Hlev]; · iexact Hlev
    isplitl [HG]; · iexact HG
    isplitl [HC]; · iexact HC
    isplitl [HL]; · iexact HL
    isplitl [HO]
    · unfold Dat.owesAt Pipeline.owesWithin debt
      icases HO with ⟨%W, -, HO⟩
      iexists W; iexact HO
    isplitl [HX]; · unfold xPt; iexact HX
    isplitl [HSX HSW]
    · unfold scales; isplitl [HSX]; · iexact HSX
      iexact HSW
    isplitl [HW]; · iexact HW
    isplitl [HS]; · iexact HS
    unfold oPt; iexists g3
    isplitr; · ipureintro; exact fun s hs => absurd hs List.not_mem_nil
    iexact HD
  unfold pointPost after Dat.owesAt Pipeline.owesWithin debt xPt scales
  iintro ⟨⟨%W, HO⟩, HN, HX, ⟨HSX, HSW⟩, HW, HS, HD⟩
  isplitl [HN HW HS]
  · isplitl [HN]; · iexact HN
    isplitl [HW] <;> iassumption
  isplitl [HO]
  · iexists W
    isplitr; · ipureintro; exact fun _ _ => Or.inl trivial
    iexact HO
  isplitl [HX]; · iexists _; isplitr; · (ipureintro; rfl)
                  iexact HX
  isplitl [HSX]; · iexists _; isplitr; · (ipureintro; rfl)
                   iexact HSX
  isplitl [HSW]; · iexists _; isplitr; · (ipureintro; rfl)
                   iexact HSW
  iexists _; isplitr; · (ipureintro; rfl)
  iexact HD

theorem body_obligation (c : Dev nD) : BodyObligation (dats (F := F) m 0 c) (defs₀ (F := F)) 𝒱₀ () Set.univ := fun t => by
  rw [fin_N0 t, bigSep_W, bigSep_W]
  simp only [owns_whole_eq]
  exact point m c

/-! ## What the launch asks -/

theorem share_eq (c : Dev nD) (w : Fin cfg0.W) : (dats m 0 c).share w = fullShare := by unfold Dat.share; split <;> rfl

theorem weight_rest (c : Dev nD) :
    (Pipeline.unscopedRestP (Ix := Unit) (Name := ℕ) (U := UU) (Lvl := ℕ) Pipeline.Prefetch.none cfg0.spec c (fun b => m ((c : Thread nD τ).loc b)) : sProp 𝕄)
      ⊢ wPt m c := by
  exact Entails.of_eq (unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop((wPt m c ∗ levAts L lv ∗ credits c ∗ dealt m c) ∗ emp) := by
  iintro ⟨HW, Hlev, Hcr, -, HG⟩
  ihave HW := (weight_rest m c) $$ HW
  ihave Hc := (creds (F := F) c) $$ Hcr
  imodintro
  isplitl
  · isplitl [HW]; · iexact HW
    isplitl [Hlev]; · iexact Hlev
    isplitl [Hc] <;> iassumption
  · iempintro

theorem enter (c : Dev nD) :
    iprop((wPt m c ∗ levAts L lv ∗ credits c ∗ dealt m c) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = before m c from rfl, scopedRest0_eq]
  unfold before dealt scratch tPt
  iintro ⟨⟨HW, Hlev, HC, HK, HG, HL⟩, -, HS⟩
  isplitl [HK]; · iexact HK
  isplitl [HG]; · iexact HG
  isplitl [HC]; · iexact HC
  isplitl [Hlev]; · iexact Hlev
  isplitl [HL]; · iexact HL
  isplitl [HW] <;> iassumption

theorem leave (c : Dev nD) :
    (dats m 0 c).Φ (Fin.last cfg0.N)
      ⊢ iprop((wPt m c ∗ unscopedSems0 c) ∗ Pipeline.ownSems0 osem c ∗ Pipeline.scopedRest cfg0.spec c) := by
  rw [show (dats m 0 c).Φ (Fin.last cfg0.N) = after m c from rfl, scopedRest0_eq, ownSems0_eq, unscopedSems0_eq]
  unfold after counters scratch tPt
  iintro ⟨⟨HB, HN⟩, HW, HS⟩
  isplitl [HW HB]
  · isplitl [HW] <;> iassumption
  isplitl [HN] <;> iassumption

theorem waits (c : Dev nD) : (levAts L lv : sProp 𝕄) ⊢ Pipeline.cellsWaits cfgs (dats m) () 0 c :=
  Pipeline.cellsWaits_intro cfgs (dats m) () 0 c fun w s t =>
    mayWait_above c _ 0 (by revert c; fin_cases w <;> fin_cases s <;> decide +kernel) (by
      rcases t with ⟨_ | _, ht⟩
      · exact above_O₀ c
      · exact above_zero 0)

/-! ## The run -/

/-- What a run ends in, on every device: each window's array at what the pipeline leaves there, the weight untouched,
    and every counter at zero. -/
def Ends (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)) ∧ r.2.sem = fun _ => 0

theorem own_records (a : UB) : BI.own (((Emb.inl : Emb UB (UB × Counters)).trans EQ : Emb UB 𝕄) a) ⊢ (BI.own (ER a) : sProp 𝕄) := by
  unfold ER; exact BI.Entails.refl _

theorem run_pipeline : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (own_records _) $$ HX
      imod (fund_exchange m) $$ HX with HG
      imodintro
      isplitl [HP] <;> iassumption)
    (hglob := glob m)
    (hA := fun _ _ => rfl) (hpf := fun _ k => k.elim0)
    (X := fun c => iprop(wPt m c ∗ levAts L lv ∗ credits c ∗ dealt m c)) (Y := fun c => iprop(wPt m c ∗ unscopedSems0 c)) (Z := fun _ => iprop(emp))
    (hX := start_intro m ρ) (hin := enter m) (hout := leave m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold wPt
      iintro ⟨⟨HW, Hu⟩, -, HSI⟩
      icombine HSI HW gives %h
      imod (Pipeline.unscopedSems0_read (X := unscopedSems0 c) (c := c) fupd_intro s') $$ [Hu HSI] with ⟨%h', HSI⟩
      · isplitl [Hu] <;> iassumption
      imodintro
      isplitr; · ipureintro; exact ⟨Buf.eq_of_forall_mem_univ h, h'⟩
      iexact HSI)
    (hQ := fun _ h hs => ⟨fun c => ⟨(h c).1, (h c).2.2.1⟩, sem_eq_zero hs fun c => (h c).2.2.2⟩)

end Cert.KernelIdeal.Exchange

end
-- ==== Proof.Value.lean ====
/-
# What a run of the kernel leaves

The run's end read off buffer by buffer: the result's array holds the rows computed for the device, the arguments hold
what they held, and the blocks the rows are computed from are the argument arrays themselves.
-/
module

public import proofs.«01_k».proof.Proof.Run

@[expose] public section

set_option maxRecDepth 16384

noncomputable section

namespace Cert.KernelIdeal.Exchange

open Cert.KernelIdeal Cert.KernelIdeal.Gen
open Idealize.ShloMosaic Idealize.ShloMosaic.TcCoe
open Idealize.SL.Sem
open Idealize.ShloMosaic.Pipeline (Dat Cfg Window cellOf)

variable {F : FTy → Type} [FloatOps F]
variable (m : (ℓ : Loc nD τ sig) → Buf (Elt F) ℓ) (ρ : Dev nD → PrngReg)

/-! ## The arrays after the pipeline -/

theorem x_kept (c : Dev nD) : (dats m 0 c).arrAt (0 : Fin 4) cfg0.N = m ((c : Thread nD τ).loc main_arg0) :=
  Dat.arrAt_in (dats m 0 c) (0 : Fin 4) rfl _
theorem scaleX_kept (c : Dev nD) : (dats m 0 c).arrAt (1 : Fin 4) cfg0.N = m ((c : Thread nD τ).loc main_arg2) :=
  Dat.arrAt_in (dats m 0 c) (1 : Fin 4) rfl _
theorem scaleW_kept (c : Dev nD) : (dats m 0 c).arrAt (2 : Fin 4) cfg0.N = m ((c : Thread nD τ).loc main_arg3) :=
  Dat.arrAt_in (dats m 0 c) (2 : Fin 4) rfl _

theorem x_origin : (fun a => win0_0.index t0_0 a * main_arg0.ty.shape.size a) = fun _ => 0 :=
  funext fun a => by fin_cases a <;> decide +kernel
theorem scaleX_origin : (fun a => win0_1.index t0_0 a * main_arg2.ty.shape.size a) = fun _ => 0 :=
  funext fun a => by fin_cases a; decide +kernel
theorem scaleW_origin : (fun a => win0_2.index t0_0 a * main_arg3.ty.shape.size a) = fun _ => 0 :=
  funext fun a => by fin_cases a; decide +kernel
theorem out_origin : (fun a => win0_3.index t0_0 a * main_v1.ty.shape.size a) = fun _ => 0 :=
  funext fun a => by fin_cases a <;> decide +kernel

/-- A block as large as its array, placed at the origin, lies in it. -/
theorem in_whole {n : ℕ} {size off : Fin n → ℕ} (h : off = fun _ => 0) (a : Fin n) : off a + size a ≤ size a := by
  subst h; exact (Nat.zero_add _).le

/-- The result's array ends at the computed rows: the one point writes all of it. -/
theorem result_at (c : Dev nD) : (dats m 0 c).arrAt (3 : Fin 4) cfg0.N = outAt m c := by
  refine Eq.trans (Memref.read_access_unit_zero (Elt F) main_v1 out_origin (in_whole out_origin) _).symm ?_
  rw [show cfg0.N = (t0_0 : Fin cfg0.N).val + 1 from rfl, (dats m 0 c).arrAt_succ (3 : Fin 4) t0_0,
    show (cfg0.win 3).flush t0_0 = true from flush0_3 t0_0, if_pos rfl]
  exact View.read_write_univ _ _

/-! ## The blocks the rows are computed from -/

theorem xBlk_eq (c : Dev nD) : xBlk m c = m ((c : Thread nD τ).loc main_arg0) :=
  Memref.read_access_unit_zero (Elt F) main_arg0 x_origin (in_whole x_origin) _
theorem scaleX_eq (c : Dev nD) : scaleX m c = (m ((c : Thread nD τ).loc main_arg2) : S1.Idx → Elt F .f32) (Shape.Idx.first one_pos) :=
  congrFun (Memref.read_access_unit_zero (Elt F) main_arg2 scaleX_origin (in_whole scaleX_origin) _) _
theorem scaleW_eq (c : Dev nD) : scaleW m c = (m ((c : Thread nD τ).loc main_arg3) : S1.Idx → Elt F .f32) (Shape.Idx.first one_pos) :=
  congrFun (Memref.read_access_unit_zero (Elt F) main_arg3 scaleW_origin (in_whole scaleW_origin) _) _

/-! ## The end -/

/-- What the arguments of a device hold at the end: what they held. -/
def Kept (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- Every run ends with each device's result at the rows computed for it, its arguments unchanged and every counter at
    zero. -/
theorem run_main : θ_run defs (onTc (τ := τ) (main (F := F))) ⟨m, fun _ => 0, ρ⟩ (fun r =>
    (∀ c : Dev nD, r.2.mem ((c.tc : Thread nD τ).loc main_v1) = outAt m c ∧ Kept m c r) ∧ r.2.sem = fun _ => 0) :=
  (θ_run defs _ _).mono (fun _ h => ⟨fun c =>
    ⟨((h.1 c).1 (3 : Fin 4)).trans (result_at m c), ((h.1 c).1 (0 : Fin 4)).trans (x_kept m c), (h.1 c).2,
      ((h.1 c).1 (1 : Fin 4)).trans (scaleX_kept m c), ((h.1 c).1 (2 : Fin 4)).trans (scaleW_kept m c)⟩, h.2⟩)
    (run_pipeline m ρ)

end Cert.KernelIdeal.Exchange

end
-- ==== Proof.Reference.lean ====
/-
# What a run of the reference leaves

The reference is one launch at one point over whole arrays: its result is its one stored value, computed from the
argument arrays.
-/
module

public import proofs.«01_k».proof.Proof.Gen.ReferenceIdeal.Frame
public import Idealize.ShloMosaic.Lib.Pipeline.Value

@[expose] public section

set_option maxRecDepth 16384

noncomputable section

namespace Cert.ReferenceIdeal.Whole

open Cert.ReferenceIdeal Cert.ReferenceIdeal.Gen
open Idealize.ShloMosaic Idealize.ShloMosaic.TcCoe
open Idealize.SL.Sem
open Idealize.ShloMosaic.Pipeline (Dat Cfg Window cellOf)

variable {F : FTy → Type} [FloatOps F]
variable (m : (ℓ : Loc nD τ sig) → Buf (Elt F) ℓ) (ρ : Dev nD → PrngReg)

theorem one_pos : 0 < S1.numel := by decide

/-- A vector of one number, as that number. -/
def only (v : Vec F S1 .f32) : F .f32 := (v : S1.Idx → Elt F .f32) (Shape.Idx.first one_pos)

/-- The reference's result, from the arguments. -/
def value (c : Dev nD) : Vec F S4096x8192 .f32 :=
  k0_pay1 (m ((c : Thread nD τ).loc main_arg0)) (m ((c : Thread nD τ).loc main_arg1))
    (only (m ((c : Thread nD τ).loc main_arg2))) (only (m ((c : Thread nD τ).loc main_arg3)))

/-! ## The blocks are the arrays -/

theorem x_origin : (fun a => win0_0.index t0_0 a * main_arg0.ty.shape.size a) = fun _ => 0 :=
  funext fun a => by fin_cases a <;> decide +kernel
theorem w_origin : (fun a => win0_1.index t0_0 a * main_arg1.ty.shape.size a) = fun _ => 0 :=
  funext fun a => by fin_cases a <;> decide +kernel
theorem scaleX_origin : (fun a => win0_2.index t0_0 a * main_arg2.ty.shape.size a) = fun _ => 0 :=
  funext fun a => by fin_cases a; decide +kernel
theorem scaleW_origin : (fun a => win0_3.index t0_0 a * main_arg3.ty.shape.size a) = fun _ => 0 :=
  funext fun a => by fin_cases a; decide +kernel
theorem out_origin : (fun a => win0_4.index t0_0 a * main_v0.ty.shape.size a) = fun _ => 0 :=
  funext fun a => by fin_cases a <;> decide +kernel

/-- A block as large as its array, placed at the origin, lies in it. -/
theorem in_whole {n : ℕ} {size off : Fin n → ℕ} (h : off = fun _ => 0) (a : Fin n) : off a + size a ≤ size a := by
  subst h; exact (Nat.zero_add _).le

theorem x_block (c : Dev nD) : iblk m c 0 t0_0 = m ((c : Thread nD τ).loc main_arg0) :=
  Memref.read_access_unit_zero (Elt F) main_arg0 x_origin (in_whole x_origin) _
theorem w_block (c : Dev nD) : iblk m c 1 t0_0 = m ((c : Thread nD τ).loc main_arg1) :=
  Memref.read_access_unit_zero (Elt F) main_arg1 w_origin (in_whole w_origin) _
theorem scaleX_block (c : Dev nD) : iblk m c 2 t0_0 = m ((c : Thread nD τ).loc main_arg2) :=
  Memref.read_access_unit_zero (Elt F) main_arg2 scaleX_origin (in_whole scaleX_origin) _
theorem scaleW_block (c : Dev nD) : iblk m c 3 t0_0 = m ((c : Thread nD τ).loc main_arg3) :=
  Memref.read_access_unit_zero (Elt F) main_arg3 scaleW_origin (in_whole scaleW_origin) _

/-! ## The one stored value -/

theorem zero2 : (![0, 0] : Fin 2 → Nat) = fun _ => 0 := funext fun a => by fin_cases a <;> rfl
theorem zero1 : (![0] : Fin 1 → Nat) = fun _ => 0 := funext fun a => by fin_cases a; rfl

/-- A load of everything a buffer holds reads what it holds. -/
theorem loaded {sp : Space} {S : Shape} {e : EltTy} {M : Memref sig .tc sp S e} (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread]
  exact View.ld_unit_zero h inb X

/-- What the body stores, from what its four inputs hold. -/
theorem stored (c : Dev nD) : outsAt0 m c t0_0
    = k0_pay1 (iblk m c 0 t0_0) (iblk m c 1 t0_0) (only (iblk m c 2 t0_0)) (only (iblk m c 3 t0_0)) := by
  unfold outsAt0 out0_A_4
  rw [View.read_writes_eq_canon _ _ _ (cover0_A_4 c _ _ _ _ _ _ _ _ _ _ _ _ _ _)]
  unfold kernelRun0_A
  dsimp only
  unfold kernelRun0_A.sl.r kernelRun0_A.sl.r_1 only
  refine (View.canon_unit_zero (S := S4096x8192) zero2 _ _).trans ?_
  exact congr (congr (congr (congrArg k0_pay1 (loaded (S := S4096x4096) _ _ zero2 _)) (loaded (S := S4096x8192) _ _ zero2 _))
    (congrFun (loaded (S := S1) _ _ zero1 _) _)) (congrFun (loaded (S := S1) _ _ zero1 _) _)

/-- The result array ends at what the body leaves staged: the one point writes all of it. -/
theorem result_staged (c : Dev nD) (D : Dat τ (Elt F) Unit ℕ (UR sig nD τ) ℕ cfg0 c) :
    D.arrAt (4 : Fin 5) cfg0.N = D.after (4 : Fin 5) t0_0 := by
  refine Eq.trans (Memref.read_access_unit_zero (Elt F) main_v0 out_origin (in_whole out_origin) _).symm ?_
  rw [show cfg0.N = (t0_0 : Fin cfg0.N).val + 1 from rfl, D.arrAt_succ (4 : Fin 5) t0_0,
    show (cfg0.win 4).flush t0_0 = true from flush0_4 t0_0, if_pos rfl]
  exact View.read_write_univ _ _

/-- The reference's result array ends at its value. -/
theorem result_at (c : Dev nD) : (dats m 0 c).arrAt (4 : Fin 5) cfg0.N = value m c := by
  refine (result_staged c (dats m 0 c)).trans ((after0_4 m c t0_0).trans ((stored m c).trans ?_))
  unfold value
  rw [x_block, w_block, scaleX_block, scaleW_block]

/-! ## The end -/

/-- Every run of the reference ends with its result at its value and its arguments unchanged. -/
theorem run_value : θ_run defs (onTc (τ := τ) (main (F := F))) ⟨m, fun _ => 0, ρ⟩ (fun r => ∀ c : Dev nD,
    r.2.mem ((c.tc : Thread nD τ).loc main_v0) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 (4 : Fin 5)).trans (result_at m c), ((h c).1 (0 : Fin 5)).trans (Dat.arrAt_in (dats m 0 c) (0 : Fin 5) rfl _),
      ((h c).1 (1 : Fin 5)).trans (Dat.arrAt_in (dats m 0 c) (1 : Fin 5) rfl _),
      ((h c).1 (2 : Fin 5)).trans (Dat.arrAt_in (dats m 0 c) (2 : Fin 5) rfl _),
      ((h c).1 (3 : Fin 5)).trans (Dat.arrAt_in (dats m 0 c) (3 : Fin 5) rfl _)⟩) (run_main m ρ)

end Cert.ReferenceIdeal.Whole

end
-- ==== Proof.Algebra.lean ====
/-
# The exact values

Over the extended reals a device's row block and the reference's rows are the same expression: a sum of products, times
the two scales, through `z ↦ z / (1 + exp (-z))`. Rounding to a narrower format and widening back change nothing there.
-/
module

public import proofs.«01_k».proof.Proof.Value
public import proofs.«01_k».proof.Proof.Reference
public import Idealize.ShloMosaic.Lib.Pointwise

@[expose] public section

set_option maxRecDepth 16384

noncomputable section

namespace Cert.Exact

open Idealize.ShloMosaic Idealize.ShloMosaic.TcCoe
open scoped BigOperators

/-! ## The gate -/

/-- `z` times its logistic. -/
def gate (z : EReal) : EReal := z * Ideal.logistic z

theorem exp_nonneg (z : EReal) : 0 ≤ Ideal.exp z := by
  induction z using EReal.rec with
  | bot => exact le_refl _
  | top => exact le_top
  | coe r => exact EReal.coe_nonneg.mpr (Real.exp_pos r).le

theorem one_add_exp_ne (z : EReal) : 1 + Ideal.exp z ≠ 0 := by
  intro h
  have h1 : (1 : EReal) ≤ 1 + Ideal.exp z := le_add_of_nonneg_right (exp_nonneg z)
  rw [h] at h1
  exact absurd h1 (by norm_num)

/-- Dividing by `1 + exp (0 - z)` is multiplying by the logistic, at the infinities too. -/
theorem div_eq_gate (z : EReal) : Ideal.div z (1 + Ideal.exp (0 - z)) = gate z := by
  unfold gate Ideal.logistic Ideal.div
  rw [zero_sub, if_neg (one_add_exp_ne _), if_neg (one_add_exp_ne _), one_mul]

/-! ## The payloads at an index -/

theorem own_apply (a b : Ideal .f32) (x : Vec Ideal Cert.KernelIdeal.S512x4096 .fp8e4m3) (w : Vec Ideal Cert.KernelIdeal.S1x4096x1024 .fp8e5m2)
    (r : Fin 512) (k : Fin 1024) :
    Cert.KernelIdeal.Gen.k0_pay3 a b x w (ix2 r k)
      = gate ((∑ i : Fin 4096, (x (ix2 r i) : EReal) * (w (ix3 0 i k) : EReal)) * (a * b)) := by
  pointwise [Cert.KernelIdeal.Gen.k0_pay3, Cert.KernelIdeal.Gen.k0_pay2]
  rfl

theorem sent_apply (a b : Ideal .f32) (x : Vec Ideal Cert.KernelIdeal.S512x4096 .fp8e4m3) (w : Vec Ideal Cert.KernelIdeal.S1x4096x1024 .fp8e5m2)
    (r : Fin 512) (k : Fin 1024) :
    Cert.KernelIdeal.Gen.k0_pay1 (Cert.KernelIdeal.Gen.k0_pay6 (Cert.KernelIdeal.Gen.k0_pay2 a b) x w) (ix2 r k)
      = gate ((∑ i : Fin 4096, (x (ix2 r i) : EReal) * (w (ix3 0 i k) : EReal)) * (a * b)) := by
  pointwise [Cert.KernelIdeal.Gen.k0_pay1, Cert.KernelIdeal.Gen.k0_pay6, Cert.KernelIdeal.Gen.k0_pay2]
  rfl

theorem whole_apply (a b : Ideal .f32) (x : Vec Ideal Cert.ReferenceIdeal.S4096x4096 .fp8e4m3) (w : Vec Ideal Cert.ReferenceIdeal.S4096x8192 .fp8e5m2)
    (r : Fin 4096) (k : Fin 8192) :
    Cert.ReferenceIdeal.Gen.k0_pay1 x w a b (ix2 r k)
      = gate ((∑ i : Fin 4096, (x (ix2 r i) : EReal) * (w (ix2 i k) : EReal)) * (a * b)) := by
  rw [← div_eq_gate]
  pointwise [Cert.ReferenceIdeal.Gen.k0_pay1]

/-! ## A device's rows and the reference's -/

section Rows

open Cert.KernelIdeal Cert.KernelIdeal.Gen Cert.KernelIdeal.Exchange

variable (m : (ℓ : Loc nD τ sig) → Buf (Elt Ideal) ℓ)

/-- Column `k` of column block `j` of the weight. -/
def column (j : Fin 8) (k : Fin 1024) : Fin 8192 := ⟨1024 * j.val + k.val, by omega⟩
/-- Row `r` of row block `s` of the input. -/
def row (s : Fin 8) (r : Fin 512) : Fin 4096 := ⟨512 * s.val + r.val, by omega⟩

theorem wBlk_apply (c : Dev nD) (j : Fin 8) (i : Fin 4096) (k : Fin 1024) :
    wBlk m c j (ix3 0 i k) = (m ((c : Thread nD τ).loc main_arg1) : S4096x8192.Idx → Elt Ideal .fp8e5m2) (ix2 i (column j k)) := by
  have e : (Shape.reshapeEquiv squeezes_S1x4096x1024_S4096x1024.numel_eq).symm (ix3 0 i k : S1x4096x1024.Idx)
      = (ix2 i k : S4096x1024.Idx) := by
    rw [Equiv.symm_apply_eq]
    pointwise
  unfold wBlk
  rw [e, View.read_apply]
  refine congrArg (m ((c : Thread nD τ).loc main_arg1) : S4096x8192.Idx → Elt Ideal .fp8e5m2) ?_
  funext a
  refine Fin.ext ?_
  match a with
  | ⟨0, _⟩ => show 0 + 1 * i.val = i.val; omega
  | ⟨1, _⟩ => show 1024 * j.val + 1 * k.val = 1024 * j.val + k.val; omega

/-- Row `r`, column `k` of what device `c` gets of device `s`'s rows. -/
theorem rowsOf_apply (c s : Dev nD) (r : Fin 512) (k : Fin 1024) :
    (rowsOf m c s : S512x1024.Idx → EReal) (ix2 r k)
      = gate ((∑ i : Fin 4096, (xBlk m s (ix2 r i) : EReal) * (wBlk m s c (ix3 0 i k) : EReal)) * (scaleX m s * scaleW m s)) := by
  by_cases h : s = c
  · subst h
    rw [rowsOf_self]
    exact own_apply _ _ _ _ _ _
  · rw [rowsOf_other m h]
    exact sent_apply _ _ _ _ _ _

end Rows

section Claim

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- Every device holds its rows of the reference's input, and the reference's weight and scales. -/
def Agrees : Prop := ∀ c : Dev KernelIdeal.nD,
  m ((c.tc : Thread KernelIdeal.nD KernelIdeal.τ).loc KernelIdeal.main_arg0)
      = Layout.block ⟨2, ![512, 4096]⟩ ⟨2, ![4096, 4096]⟩ 0 8 c (m' (((0 : Dev ReferenceIdeal.nD).tc : Thread ReferenceIdeal.nD ReferenceIdeal.τ).loc ReferenceIdeal.main_arg0))
    ∧ m ((c.tc : Thread KernelIdeal.nD KernelIdeal.τ).loc KernelIdeal.main_arg1)
      = m' (((0 : Dev ReferenceIdeal.nD).tc : Thread ReferenceIdeal.nD ReferenceIdeal.τ).loc ReferenceIdeal.main_arg1)
    ∧ m ((c.tc : Thread KernelIdeal.nD KernelIdeal.τ).loc KernelIdeal.main_arg2)
      = m' (((0 : Dev ReferenceIdeal.nD).tc : Thread ReferenceIdeal.nD ReferenceIdeal.τ).loc ReferenceIdeal.main_arg2)
    ∧ m ((c.tc : Thread KernelIdeal.nD KernelIdeal.τ).loc KernelIdeal.main_arg3)
      = m' (((0 : Dev ReferenceIdeal.nD).tc : Thread ReferenceIdeal.nD ReferenceIdeal.τ).loc ReferenceIdeal.main_arg3)

/-- The reference's input, row by row. -/
theorem x_row (h : Agrees m m') (s : Dev KernelIdeal.nD) (r : Fin 512) (i : Fin 4096) :
    KernelIdeal.Exchange.xBlk m s (ix2 r i)
      = (m' (((0 : Dev ReferenceIdeal.nD).tc : Thread ReferenceIdeal.nD ReferenceIdeal.τ).loc ReferenceIdeal.main_arg0)
          : ReferenceIdeal.S4096x4096.Idx → Elt Ideal .fp8e4m3) (ix2 (row s r) i) := by
  rw [KernelIdeal.Exchange.xBlk_eq]
  refine (congrFun (h s).1 (ix2 r i)).trans ?_
  rw [Layout.block_apply]
  refine congrArg (m' (((0 : Dev ReferenceIdeal.nD).tc : Thread ReferenceIdeal.nD ReferenceIdeal.τ).loc ReferenceIdeal.main_arg0)
          : ReferenceIdeal.S4096x4096.Idx → Elt Ideal .fp8e4m3) ?_
  funext a
  refine Fin.ext ?_
  match a with
  | ⟨0, _⟩ => show s.val * 512 + r.val = 512 * s.val + r.val; omega
  | ⟨1, _⟩ => rfl

theorem scaleX_same (h : Agrees m m') (s : Dev KernelIdeal.nD) : KernelIdeal.Exchange.scaleX m s
    = ReferenceIdeal.Whole.only (m' (((0 : Dev ReferenceIdeal.nD).tc : Thread ReferenceIdeal.nD ReferenceIdeal.τ).loc ReferenceIdeal.main_arg2)) :=
  (KernelIdeal.Exchange.scaleX_eq m s).trans (congrFun (h s).2.2.1 _)
theorem scaleW_same (h : Agrees m m') (s : Dev KernelIdeal.nD) : KernelIdeal.Exchange.scaleW m s
    = ReferenceIdeal.Whole.only (m' (((0 : Dev ReferenceIdeal.nD).tc : Thread ReferenceIdeal.nD ReferenceIdeal.τ).loc ReferenceIdeal.main_arg3)) :=
  (KernelIdeal.Exchange.scaleW_eq m s).trans (congrFun (h s).2.2.2 _)

/-- Device `c` ends with column block `c` of the reference's result. -/
theorem outAt_eq (h : Agrees m m') (c : Dev KernelIdeal.nD) :
    KernelIdeal.Exchange.outAt m c = Layout.block ⟨2, ![4096, 1024]⟩ ⟨2, ![4096, 8192]⟩ 1 8 c (ReferenceIdeal.Whole.value m' 0) := by
  funext i
  obtain ⟨R, k, rfl⟩ : ∃ (R : Fin 4096) (k : Fin 1024), i = ix2 R k := ⟨i 0, i 1, eq_ix2 i⟩
  have hi : (Layout.Tiles.idx (by decide : Layout.Tiles ⟨2, ![4096, 1024]⟩ ⟨2, ![4096, 8192]⟩ 1 8) c (ix2 R k))
      = (ix2 R (column c k) : ReferenceIdeal.S4096x8192.Idx) := by
    funext a
    refine Fin.ext ?_
    match a with
    | ⟨0, _⟩ => rfl
    | ⟨1, _⟩ => show c.val * 1024 + k.val = 1024 * c.val + k.val; omega
  rw [Layout.block_apply, hi]
  have hb : KernelIdeal.Exchange.inBlock (ix2 R k) = ix2 (⟨R.val % 512, Nat.mod_lt _ (by decide)⟩ : Fin 512) k := by
    funext a
    match a with
    | ⟨0, _⟩ => rfl
    | ⟨1, _⟩ => rfl
  have hR : row (KernelIdeal.Exchange.rowBlock (ix2 R k)) ⟨R.val % 512, Nat.mod_lt _ (by decide)⟩ = R :=
    Fin.ext (show 512 * (R.val / 512) + R.val % 512 = R.val by omega)
  unfold KernelIdeal.Exchange.outAt
  rw [hb]
  refine (rowsOf_apply m c _ _ _).trans ?_
  refine Eq.trans ?_ (whole_apply _ _ _ _ R (column c k)).symm
  rw [scaleX_same m m' h, scaleW_same m m' h]
  refine congrArg (fun z : EReal => gate (z * _)) (Finset.sum_congr rfl fun i _ => ?_)
  rw [x_row m m' h, hR, wBlk_apply]
  exact congrArg (fun y : EReal => (_ : EReal) * y) (congrFun (h _).2.1 _)

end Claim

end Cert.Exact

end
-- ==== Proof.Claims.lean ====
/-
# The claims

Each claim from the run it is about: the frames of the kernel, as printed and over the extended reals, and of the
reference; and that the kernel's results are the column blocks of the reference's.
-/
module

public import proofs.«01_k».proof.Defs
public import proofs.«01_k».proof.Proof.Algebra
public import proofs.«01_k».proof.Proof.Gen.Kernel

@[expose] public section

set_option maxRecDepth 16384

noncomputable section

namespace Cert.Proof

open Idealize.ShloMosaic Idealize.SL.Sem

/-! ## The two kernels have one text -/

section Same

variable {F : FTy → Type} [FloatOps F]

/-- The two programs' bodies are one program, so their tables of bodies are one table: it has one row. -/
theorem same_rows : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  obtain rfl : l = 0 := by have : l < 1 := hl; omega
  rfl

theorem same_defs : Cert.Kernel.defs (F := F) = Cert.KernelIdeal.defs (F := F) :=
  congrArg (Pipeline.defs Cert.KernelIdeal.pcfgs) same_rows

end Same

/-! ## The claims -/

/-- The kernel as printed runs, keeps its arguments and leaves every counter at zero. -/
theorem frame_kernel : Cert.quiescent_Kernel := by
  intro m ρ _
  rw [same_defs]
  exact (θ_run Cert.KernelIdeal.defs _ _).mono (fun _ h => ⟨fun c => (h.1 c).2, h.2⟩)
    (Cert.KernelIdeal.Exchange.run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩)
    (Cert.KernelIdeal.Exchange.run_main (F := Ideal) m ρ)

/-- And the reference. -/
theorem frame_reference : Cert.quiescent_ReferenceIdeal := fun m ρ _ => Cert.ReferenceIdeal.Gen.frame m ρ

/-- Every device ends with its column block of the reference's result. -/
theorem algebraic : Cert.algebraic_KernelIdeal_ReferenceIdeal := fun m ρ m' ρ' _ h =>
  ⟨Cert.ReferenceIdeal.Whole.value m' 0,
    (θ_run Cert.KernelIdeal.defs _ _).mono
      (fun _ e c => ⟨((e.1 c).1).trans (Cert.Exact.outAt_eq m m' h c), (e.1 c).2⟩)
      (Cert.KernelIdeal.Exchange.run_main (F := Ideal) m ρ),
    (θ_run Cert.ReferenceIdeal.defs _ _).mono (fun _ e => e 0) (Cert.ReferenceIdeal.Whole.run_value (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
